-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_finite [hPre_mask_finite : Cert.Pre_mask_finite.Facts] (m : (ℓ : Loc Cert.KernelIdeal.nD Cert.KernelIdeal.τ Cert.KernelIdeal.sig) → Buf (Elt Ideal) ℓ) : Prop :=
  ∀ c : Dev Cert.KernelIdeal.nD,
    (Cert.Pre_mask_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_finite [hPre_mask_finite : Cert.Pre_mask_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_mask_finite [hKernelIdeal : Cert.KernelIdeal.Facts] [hPre_mask_finite : Cert.Pre_mask_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_mask_finite [hReferenceIdeal : Cert.ReferenceIdeal.Facts] [hPre_mask_finite : Cert.Pre_mask_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "point_weight" .f32 0x38855555#32 ((25 / 393216 : ℝ) : EReal)

def algebraic_KernelIdeal_ReferenceIdeal_pre_mask_finite [hKernelIdeal : Cert.KernelIdeal.Facts] [hReferenceIdeal : Cert.ReferenceIdeal.Facts] [hPre_mask_finite : Cert.Pre_mask_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_mask_finite : Cert.Pre_mask_finite.Facts),
    quiescent_Kernel (hKernel := hKernel)
    ∧ quiescent_KernelIdeal (hKernelIdeal := hKernelIdeal)
    ∧ quiescent_KernelIdeal_pre_mask_finite (hKernelIdeal := hKernelIdeal) (hPre_mask_finite := hPre_mask_finite)
    ∧ quiescent_ReferenceIdeal (hReferenceIdeal := hReferenceIdeal)
    ∧ quiescent_ReferenceIdeal_pre_mask_finite (hReferenceIdeal := hReferenceIdeal) (hPre_mask_finite := hPre_mask_finite)
    ∧ preserves_Kernel_KernelIdeal
    ∧ algebraic_KernelIdeal_ReferenceIdeal_pre_mask_finite (hKernelIdeal := hKernelIdeal) (hReferenceIdeal := hReferenceIdeal) (hPre_mask_finite := hPre_mask_finite)
-- ==== Pre_mask_finite.lean ====
abbrev S1024x6x16x16 : Shape := ⟨4, ![1024, 6, 16, 16]⟩
abbrev S1024x1x100 : Shape := ⟨3, ![1024, 1, 100]⟩
abbrev S1024x10x1 : Shape := ⟨3, ![1024, 10, 1]⟩
abbrev S1024 : Shape := ⟨1, ![1024]⟩
abbrev S_ : Shape := ⟨0, ![]⟩

class Facts : Prop where
  bcast_S_S1024x6x16x16 : S_.BroadcastsInDim S1024x6x16x16 (![] : Fin 0 → Fin S1024x6x16x16.rank)

variable [Facts]

def fn {F : FTy → Type} [FloatOps F] (main_arg0 : FVec F S1024x6x16x16 .f32) (main_arg1 : FVec F S1024x6x16x16 .f32) (main_arg2 : FVec F S1024x6x16x16 .f32) (main_arg3 : FVec F S1024x1x100 .f32) (main_arg4 : IVec S1024x10x1 32) (main_arg5 : IVec S1024 32) : IVec S1024x6x16x16 1 :=
  let main_v0 : FVec F S1024x6x16x16 .f32 := Host.absf main_arg2
  let main_cst : FVec F S_ .f32 := constant S_ .f32 0x7F800000#32
  let main_v1 : FVec F S1024x6x16x16 .f32 := broadcastInDim S1024x6x16x16 ![] bcast_S_S1024x6x16x16 main_cst
  let main_v2 : IVec S1024x6x16x16 1 := cmpf .olt main_v0 main_v1
  main_v2
-- ==== Kernel.lean ====
abbrev S1024x6x16x16 : Shape := ⟨4, ![1024, 6, 16, 16]⟩
abbrev S1024x1x100 : Shape := ⟨3, ![1024, 1, 100]⟩
abbrev S1024x10x1 : Shape := ⟨3, ![1024, 10, 1]⟩
abbrev S1024 : Shape := ⟨1, ![1024]⟩
abbrev S6x16x16x1024 : Shape := ⟨4, ![6, 16, 16, 1024]⟩
abbrev S1536x1024 : Shape := ⟨2, ![1536, 1024]⟩
abbrev S100x1x1024 : Shape := ⟨3, ![100, 1, 1024]⟩
abbrev S10x10x8x128 : Shape := ⟨4, ![10, 10, 8, 128]⟩
abbrev S10x1x1024 : Shape := ⟨3, ![10, 1, 1024]⟩
abbrev S10x8x128 : Shape := ⟨3, ![10, 8, 128]⟩
abbrev S8x128 : Shape := ⟨2, ![8, 128]⟩
abbrev S1x1 : Shape := ⟨2, ![1, 1]⟩
abbrev S1 : Shape := ⟨1, ![1]⟩
abbrev S2x96x1024 : Shape := ⟨3, ![2, 96, 1024]⟩
abbrev S2 : Shape := ⟨1, ![2]⟩
abbrev S_ : Shape := ⟨0, ![]⟩
abbrev S1x96x1024 : Shape := ⟨3, ![1, 96, 1024]⟩
abbrev S96x1024 : Shape := ⟨2, ![96, 1024]⟩
abbrev S1x1x1 : Shape := ⟨3, ![1, 1, 1]⟩
abbrev S1x1x8x128 : Shape := ⟨4, ![1, 1, 8, 128]⟩
abbrev S10x1x8x128 : Shape := ⟨4, ![10, 1, 8, 128]⟩
abbrev S1x10x10x8x128 : Shape := ⟨5, ![1, 10, 10, 8, 128]⟩
abbrev S1x1x1x1x1 : Shape := ⟨5, ![1, 1, 1, 1, 1]⟩

abbrev nBuf : Space → Nat
  | .hbm => 19
  | .vmem => 6
  | .smem => 2
  | _ => 0

abbrev bufTy : (tb : Table) → Fin (tcTables nBuf tb) → BufTy
  | .hbm, ⟨0, _⟩ => ⟨S1024x6x16x16, .f32⟩
  | .hbm, ⟨1, _⟩ => ⟨S1024x6x16x16, .f32⟩
  | .hbm, ⟨2, _⟩ => ⟨S1024x6x16x16, .f32⟩
  | .hbm, ⟨3, _⟩ => ⟨S1024x1x100, .f32⟩
  | .hbm, ⟨4, _⟩ => ⟨S1024x10x1, .i32⟩
  | .hbm, ⟨5, _⟩ => ⟨S1024, .i32⟩
  | .hbm, ⟨6, _⟩ => ⟨S6x16x16x1024, .f32⟩
  | .hbm, ⟨7, _⟩ => ⟨S1536x1024, .f32⟩
  | .hbm, ⟨8, _⟩ => ⟨S6x16x16x1024, .f32⟩
  | .hbm, ⟨9, _⟩ => ⟨S1536x1024, .f32⟩
  | .hbm, ⟨10, _⟩ => ⟨S6x16x16x1024, .f32⟩
  | .hbm, ⟨11, _⟩ => ⟨S1536x1024, .f32⟩
  | .hbm, ⟨12, _⟩ => ⟨S100x1x1024, .f32⟩
  | .hbm, ⟨13, _⟩ => ⟨S10x10x8x128, .f32⟩
  | .hbm, ⟨14, _⟩ => ⟨S10x1x1024, .i32⟩
  | .hbm, ⟨15, _⟩ => ⟨S10x8x128, .i32⟩
  | .hbm, ⟨16, _⟩ => ⟨S8x128, .i32⟩
  | .hbm, ⟨17, _⟩ => ⟨S1x1, .f32⟩
  | .hbm, ⟨18, _⟩ => ⟨S_, .f32⟩
  | .local _ .vmem, ⟨0, _⟩ => ⟨S10x10x8x128, .f32⟩
  | .local _ .vmem, ⟨1, _⟩ => ⟨S10x8x128, .i32⟩
  | .local _ .vmem, ⟨2, _⟩ => ⟨S8x128, .i32⟩
  | .local _ .vmem, ⟨3, _⟩ => ⟨S2x96x1024, .f32⟩
  | .local _ .vmem, ⟨4, _⟩ => ⟨S2x96x1024, .f32⟩
  | .local _ .vmem, ⟨5, _⟩ => ⟨S2x96x1024, .f32⟩
  | .local _ .smem, ⟨0, _⟩ => ⟨S1x1, .f32⟩
  | .local _ .smem, ⟨1, _⟩ => ⟨S1, .i32⟩
  | _, _ => ⟨S1024x6x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scoped0 : Ref sig .tc := ⟨.vmem, 3, rfl⟩
abbrev cc0_scoped2 : Ref sig .tc := ⟨.vmem, 4, rfl⟩
abbrev cc0_scoped4 : Ref sig .tc := ⟨.vmem, 5, rfl⟩
abbrev cc0_stg3_0 : Ref sig .tc := ⟨.smem, 0, rfl⟩
abbrev cc0_scratch0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_off1 : Fin 1 → Nat :=
  let c0_i32_16_r0 : BitVec 32 := 0#32
  let c2_i32_r0 : BitVec 32 := 2#32
  let v18_r0 : BitVec 32 := Scalar.remui c0_i32_16_r0 c2_i32_r0
  ![v18_r0.toNat]
def k0_off2 : Fin 3 → Nat :=
  let c0_i32_16_r0 : BitVec 32 := 0#32
  let c2_i32_r0 : BitVec 32 := 2#32
  let v18_r0 : BitVec 32 := Scalar.remui c0_i32_16_r0 c2_i32_r0
  let c0_i32_17_r0 : BitVec 32 := 0#32
  let c0_i32_18_r0 : BitVec 32 := 0#32
  ![v18_r0.toNat, 0, 0]
@[reducible] def k0_t1_loop : Scf.Loop 32 :=
  let c0_i32_43_r0 : BitVec 32 := 0#32
  let c16_i32_44_r0 : BitVec 32 := 16#32
  let v39_r0 : BitVec 32 := Scalar.addi c0_i32_43_r0 c16_i32_44_r0
  let c1_i32_45_r0 : BitVec 32 := 1#32
  ⟨c0_i32_43_r0, v39_r0, c1_i32_45_r0⟩
def k0_off3 (arg9_r0 : BitVec 32) : Fin 1 → Nat :=
  let c2_i32_151_r0 : BitVec 32 := 2#32
  let v206_r0 : BitVec 32 := Scalar.remui arg9_r0 c2_i32_151_r0
  ![v206_r0.toNat]
def k0_cond1 (k0_t1 : Fin k0_t1_loop.trips) (arg15_r0 : BitVec 32) : BitVec 1 :=
  let c0_i32_69_r0 : BitVec 32 := 0#32
  let v63_r0 : BitVec 32 := Scalar.addi arg15_r0 c0_i32_69_r0
  let true_76_r0 : BitVec 1 := 1#1
  let c1_i32_75_r0 : BitVec 32 := 1#32
  let v69_r0 : BitVec 32 := Scalar.addi arg15_r0 c1_i32_75_r0
  let v70_r0 : BitVec 32 := Scalar.select true_76_r0 v69_r0 arg15_r0
  let c16_i32_77_r0 : BitVec 32 := 16#32
  let v71_r0 : BitVec 1 := Scalar.cmpi .eq v70_r0 c16_i32_77_r0
  let c0_i32_78_r0 : BitVec 32 := 0#32
  let v72_r0 : BitVec 32 := Scalar.select v71_r0 c0_i32_78_r0 v70_r0
  let c0_i32_79_r0 : BitVec 32 := 0#32
  let v73_r0 : BitVec 32 := Scalar.addi v72_r0 c0_i32_79_r0
  let v79_r0 : BitVec 1 := Scalar.cmpi .ne v63_r0 v73_r0
  let c0_i32_43_r0 : BitVec 32 := 0#32
  let c1_i32_45_r0 : BitVec 32 := 1#32
  let arg8_r0 : BitVec 32 := Scf.iv c0_i32_43_r0 c1_i32_45_r0 k0_t1
  let c15_i32_85_r0 : BitVec 32 := 15#32
  let v80_r0 : BitVec 1 := Scalar.cmpi .sge arg8_r0 c15_i32_85_r0
  let true_86_r0 : BitVec 1 := 1#1
  let v81_r0 : BitVec 1 := Scalar.xori v80_r0 true_86_r0
  let v82_r0 : BitVec 1 := Scalar.andi v79_r0 v81_r0
  let true_87_r0 : BitVec 1 := 1#1
  let v83_r0 : BitVec 1 := Scalar.andi v82_r0 true_87_r0
  let v84_r0 : BitVec 32 := Scalar.extui v83_r0
  let c0_i32_88_r0 : BitVec 32 := 0#32
  let v85_r0 : BitVec 1 := Scalar.cmpi .ne v84_r0 c0_i32_88_r0
  v85_r0

def k0_off4 (arg9_r0 : BitVec 32) : Fin 3 → Nat :=
  let c2_i32_151_r0 : BitVec 32 := 2#32
  let v206_r0 : BitVec 32 := Scalar.remui arg9_r0 c2_i32_151_r0
  let c0_i32_152_r0 : BitVec 32 := 0#32
  let c0_i32_153_r0 : BitVec 32 := 0#32
  ![v206_r0.toNat, 0, 0]
def k0_off5 (arg15_r0 : BitVec 32) : Fin 2 → Nat :=
  let c96_i32_r0 : BitVec 32 := 96#32
  let true_76_r0 : BitVec 1 := 1#1
  let c1_i32_75_r0 : BitVec 32 := 1#32
  let v69_r0 : BitVec 32 := Scalar.addi arg15_r0 c1_i32_75_r0
  let v70_r0 : BitVec 32 := Scalar.select true_76_r0 v69_r0 arg15_r0
  let c16_i32_77_r0 : BitVec 32 := 16#32
  let v71_r0 : BitVec 1 := Scalar.cmpi .eq v70_r0 c16_i32_77_r0
  let c0_i32_78_r0 : BitVec 32 := 0#32
  let v72_r0 : BitVec 32 := Scalar.select v71_r0 c0_i32_78_r0 v70_r0
  let c0_i32_79_r0 : BitVec 32 := 0#32
  let v73_r0 : BitVec 32 := Scalar.addi v72_r0 c0_i32_79_r0
  let v207_r0 : BitVec 32 := Scalar.muli c96_i32_r0 v73_r0
  let c0_i32_154_r0 : BitVec 32 := 0#32
  ![v207_r0.toNat, 0]
def k0_off6 (arg11_r0 : BitVec 32) : Fin 1 → Nat :=
  let c2_i32_151_r0 : BitVec 32 := 2#32
  let v206_r0 : BitVec 32 := Scalar.remui arg11_r0 c2_i32_151_r0
  ![v206_r0.toNat]
def k0_cond2 (k0_t1 : Fin k0_t1_loop.trips) (arg15_r0 : BitVec 32) : BitVec 1 :=
  let c0_i32_69_r0 : BitVec 32 := 0#32
  let v63_r0 : BitVec 32 := Scalar.addi arg15_r0 c0_i32_69_r0
  let true_76_r0 : BitVec 1 := 1#1
  let c1_i32_75_r0 : BitVec 32 := 1#32
  let v69_r0 : BitVec 32 := Scalar.addi arg15_r0 c1_i32_75_r0
  let v70_r0 : BitVec 32 := Scalar.select true_76_r0 v69_r0 arg15_r0
  let c16_i32_77_r0 : BitVec 32 := 16#32
  let v71_r0 : BitVec 1 := Scalar.cmpi .eq v70_r0 c16_i32_77_r0
  let c0_i32_78_r0 : BitVec 32 := 0#32
  let v72_r0 : BitVec 32 := Scalar.select v71_r0 c0_i32_78_r0 v70_r0
  let c0_i32_79_r0 : BitVec 32 := 0#32
  let v73_r0 : BitVec 32 := Scalar.addi v72_r0 c0_i32_79_r0
  let v89_r0 : BitVec 1 := Scalar.cmpi .ne v63_r0 v73_r0
  let c0_i32_43_r0 : BitVec 32 := 0#32
  let c1_i32_45_r0 : BitVec 32 := 1#32
  let arg8_r0 : BitVec 32 := Scf.iv c0_i32_43_r0 c1_i32_45_r0 k0_t1
  let c15_i32_91_r0 : BitVec 32 := 15#32
  let v90_r0 : BitVec 1 := Scalar.cmpi .sge arg8_r0 c15_i32_91_r0
  let true_92_r0 : BitVec 1 := 1#1
  let v91_r0 : BitVec 1 := Scalar.xori v90_r0 true_92_r0
  let v92_r0 : BitVec 1 := Scalar.andi v89_r0 v91_r0
  let true_93_r0 : BitVec 1 := 1#1
  let v93_r0 : BitVec 1 := Scalar.andi v92_r0 true_93_r0
  let v94_r0 : BitVec 32 := Scalar.extui v93_r0
  let c0_i32_94_r0 : BitVec 32 := 0#32
  let v95_r0 : BitVec 1 := Scalar.cmpi .ne v94_r0 c0_i32_94_r0
  v95_r0

def k0_off7 (arg11_r0 : BitVec 32) : Fin 3 → Nat :=
  let c2_i32_151_r0 : BitVec 32 := 2#32
  let v206_r0 : BitVec 32 := Scalar.remui arg11_r0 c2_i32_151_r0
  let c0_i32_152_r0 : BitVec 32 := 0#32
  let c0_i32_153_r0 : BitVec 32 := 0#32
  ![v206_r0.toNat, 0, 0]
def k0_off8 (arg15_r0 : BitVec 32) : Fin 2 → Nat :=
  let c96_i32_r0 : BitVec 32 := 96#32
  let true_76_r0 : BitVec 1 := 1#1
  let c1_i32_75_r0 : BitVec 32 := 1#32
  let v69_r0 : BitVec 32 := Scalar.addi arg15_r0 c1_i32_75_r0
  let v70_r0 : BitVec 32 := Scalar.select true_76_r0 v69_r0 arg15_r0
  let c16_i32_77_r0 : BitVec 32 := 16#32
  let v71_r0 : BitVec 1 := Scalar.cmpi .eq v70_r0 c16_i32_77_r0
  let c0_i32_78_r0 : BitVec 32 := 0#32
  let v72_r0 : BitVec 32 := Scalar.select v71_r0 c0_i32_78_r0 v70_r0
  let c0_i32_79_r0 : BitVec 32 := 0#32
  let v73_r0 : BitVec 32 := Scalar.addi v72_r0 c0_i32_79_r0
  let v207_r0 : BitVec 32 := Scalar.muli c96_i32_r0 v73_r0
  let c0_i32_154_r0 : BitVec 32 := 0#32
  ![v207_r0.toNat, 0]
def k0_off9 (arg13_r0 : BitVec 32) : Fin 1 → Nat :=
  let c2_i32_151_r0 : BitVec 32 := 2#32
  let v206_r0 : BitVec 32 := Scalar.remui arg13_r0 c2_i32_151_r0
  ![v206_r0.toNat]
def k0_cond3 (k0_t1 : Fin k0_t1_loop.trips) (arg15_r0 : BitVec 32) : BitVec 1 :=
  let c0_i32_69_r0 : BitVec 32 := 0#32
  let v63_r0 : BitVec 32 := Scalar.addi arg15_r0 c0_i32_69_r0
  let true_76_r0 : BitVec 1 := 1#1
  let c1_i32_75_r0 : BitVec 32 := 1#32
  let v69_r0 : BitVec 32 := Scalar.addi arg15_r0 c1_i32_75_r0
  let v70_r0 : BitVec 32 := Scalar.select true_76_r0 v69_r0 arg15_r0
  let c16_i32_77_r0 : BitVec 32 := 16#32
  let v71_r0 : BitVec 1 := Scalar.cmpi .eq v70_r0 c16_i32_77_r0
  let c0_i32_78_r0 : BitVec 32 := 0#32
  let v72_r0 : BitVec 32 := Scalar.select v71_r0 c0_i32_78_r0 v70_r0
  let c0_i32_79_r0 : BitVec 32 := 0#32
  let v73_r0 : BitVec 32 := Scalar.addi v72_r0 c0_i32_79_r0
  let v99_r0 : BitVec 1 := Scalar.cmpi .ne v63_r0 v73_r0
  let c0_i32_43_r0 : BitVec 32 := 0#32
  let c1_i32_45_r0 : BitVec 32 := 1#32
  let arg8_r0 : BitVec 32 := Scf.iv c0_i32_43_r0 c1_i32_45_r0 k0_t1
  let c15_i32_97_r0 : BitVec 32 := 15#32
  let v100_r0 : BitVec 1 := Scalar.cmpi .sge arg8_r0 c15_i32_97_r0
  let true_98_r0 : BitVec 1 := 1#1
  let v101_r0 : BitVec 1 := Scalar.xori v100_r0 true_98_r0
  let v102_r0 : BitVec 1 := Scalar.andi v99_r0 v101_r0
  let true_99_r0 : BitVec 1 := 1#1
  let v103_r0 : BitVec 1 := Scalar.andi v102_r0 true_99_r0
  let v104_r0 : BitVec 32 := Scalar.extui v103_r0
  let c0_i32_100_r0 : BitVec 32 := 0#32
  let v105_r0 : BitVec 1 := Scalar.cmpi .ne v104_r0 c0_i32_100_r0
  v105_r0

def k0_off10 (arg13_r0 : BitVec 32) : Fin 3 → Nat :=
  let c2_i32_151_r0 : BitVec 32 := 2#32
  let v206_r0 : BitVec 32 := Scalar.remui arg13_r0 c2_i32_151_r0
  let c0_i32_152_r0 : BitVec 32 := 0#32
  let c0_i32_153_r0 : BitVec 32 := 0#32
  ![v206_r0.toNat, 0, 0]
def k0_off11 (arg15_r0 : BitVec 32) : Fin 2 → Nat :=
  let c96_i32_r0 : BitVec 32 := 96#32
  let true_76_r0 : BitVec 1 := 1#1
  let c1_i32_75_r0 : BitVec 32 := 1#32
  let v69_r0 : BitVec 32 := Scalar.addi arg15_r0 c1_i32_75_r0
  let v70_r0 : BitVec 32 := Scalar.select true_76_r0 v69_r0 arg15_r0
  let c16_i32_77_r0 : BitVec 32 := 16#32
  let v71_r0 : BitVec 1 := Scalar.cmpi .eq v70_r0 c16_i32_77_r0
  let c0_i32_78_r0 : BitVec 32 := 0#32
  let v72_r0 : BitVec 32 := Scalar.select v71_r0 c0_i32_78_r0 v70_r0
  let c0_i32_79_r0 : BitVec 32 := 0#32
  let v73_r0 : BitVec 32 := Scalar.addi v72_r0 c0_i32_79_r0
  let v207_r0 : BitVec 32 := Scalar.muli c96_i32_r0 v73_r0
  let c0_i32_154_r0 : BitVec 32 := 0#32
  ![v207_r0.toNat, 0]
def k0_off12 (arg10_r0 : BitVec 32) : Fin 1 → Nat :=
  let c2_i32_151_r0 : BitVec 32 := 2#32
  let v207_r0 : BitVec 32 := Scalar.remui arg10_r0 c2_i32_151_r0
  ![v207_r0.toNat]
def k0_cond4 (k0_t1 : Fin k0_t1_loop.trips) (arg15_r0 : BitVec 32) : BitVec 1 :=
  let c0_i32_69_r0 : BitVec 32 := 0#32
  let v63_r0 : BitVec 32 := Scalar.addi arg15_r0 c0_i32_69_r0
  let true_71_r0 : BitVec 1 := 1#1
  let c1_i32_70_r0 : BitVec 32 := 1#32
  let v64_r0 : BitVec 32 := Scalar.subi arg15_r0 c1_i32_70_r0
  let v65_r0 : BitVec 32 := Scalar.select true_71_r0 v64_r0 arg15_r0
  let c_m1_i32_72_r0 : BitVec 32 := 4294967295#32
  let v66_r0 : BitVec 1 := Scalar.cmpi .eq v65_r0 c_m1_i32_72_r0
  let c15_i32_73_r0 : BitVec 32 := 15#32
  let v67_r0 : BitVec 32 := Scalar.select v66_r0 c15_i32_73_r0 v65_r0
  let c0_i32_74_r0 : BitVec 32 := 0#32
  let v68_r0 : BitVec 32 := Scalar.addi v67_r0 c0_i32_74_r0
  let v109_r0 : BitVec 1 := Scalar.cmpi .ne v63_r0 v68_r0
  let c0_i32_43_r0 : BitVec 32 := 0#32
  let c1_i32_45_r0 : BitVec 32 := 1#32
  let arg8_r0 : BitVec 32 := Scf.iv c0_i32_43_r0 c1_i32_45_r0 k0_t1
  let c0_i32_67_r0 : BitVec 32 := 0#32
  let v61_r0 : BitVec 1 := Scalar.cmpi .eq arg8_r0 c0_i32_67_r0
  let v110_r0 : BitVec 1 := Scalar.ori v109_r0 v61_r0
  let c0_i32_103_r0 : BitVec 32 := 0#32
  let v111_r0 : BitVec 1 := Scalar.cmpi .sge arg8_r0 c0_i32_103_r0
  let v112_r0 : BitVec 1 := Scalar.andi v110_r0 v111_r0
  let v113_r0 : BitVec 32 := Scalar.extui v112_r0
  let c0_i32_104_r0 : BitVec 32 := 0#32
  let v114_r0 : BitVec 1 := Scalar.cmpi .ne v113_r0 c0_i32_104_r0
  v114_r0

def k0_off13 (arg10_r0 : BitVec 32) : Fin 3 → Nat :=
  let c2_i32_151_r0 : BitVec 32 := 2#32
  let v207_r0 : BitVec 32 := Scalar.remui arg10_r0 c2_i32_151_r0
  let c0_i32_152_r0 : BitVec 32 := 0#32
  let c0_i32_153_r0 : BitVec 32 := 0#32
  ![v207_r0.toNat, 0, 0]
def k0_off14 (arg15_r0 : BitVec 32) : Fin 2 → Nat :=
  let c96_i32_r0 : BitVec 32 := 96#32
  let c0_i32_69_r0 : BitVec 32 := 0#32
  let v63_r0 : BitVec 32 := Scalar.addi arg15_r0 c0_i32_69_r0
  let v206_r0 : BitVec 32 := Scalar.muli c96_i32_r0 v63_r0
  let c0_i32_154_r0 : BitVec 32 := 0#32
  ![v206_r0.toNat, 0]
def k0_off15 (arg12_r0 : BitVec 32) : Fin 1 → Nat :=
  let c2_i32_151_r0 : BitVec 32 := 2#32
  let v207_r0 : BitVec 32 := Scalar.remui arg12_r0 c2_i32_151_r0
  ![v207_r0.toNat]
def k0_cond5 (k0_t1 : Fin k0_t1_loop.trips) (arg15_r0 : BitVec 32) : BitVec 1 :=
  let c0_i32_69_r0 : BitVec 32 := 0#32
  let v63_r0 : BitVec 32 := Scalar.addi arg15_r0 c0_i32_69_r0
  let true_71_r0 : BitVec 1 := 1#1
  let c1_i32_70_r0 : BitVec 32 := 1#32
  let v64_r0 : BitVec 32 := Scalar.subi arg15_r0 c1_i32_70_r0
  let v65_r0 : BitVec 32 := Scalar.select true_71_r0 v64_r0 arg15_r0
  let c_m1_i32_72_r0 : BitVec 32 := 4294967295#32
  let v66_r0 : BitVec 1 := Scalar.cmpi .eq v65_r0 c_m1_i32_72_r0
  let c15_i32_73_r0 : BitVec 32 := 15#32
  let v67_r0 : BitVec 32 := Scalar.select v66_r0 c15_i32_73_r0 v65_r0
  let c0_i32_74_r0 : BitVec 32 := 0#32
  let v68_r0 : BitVec 32 := Scalar.addi v67_r0 c0_i32_74_r0
  let v115_r0 : BitVec 1 := Scalar.cmpi .ne v63_r0 v68_r0
  let c0_i32_43_r0 : BitVec 32 := 0#32
  let c1_i32_45_r0 : BitVec 32 := 1#32
  let arg8_r0 : BitVec 32 := Scf.iv c0_i32_43_r0 c1_i32_45_r0 k0_t1
  let c0_i32_67_r0 : BitVec 32 := 0#32
  let v61_r0 : BitVec 1 := Scalar.cmpi .eq arg8_r0 c0_i32_67_r0
  let v116_r0 : BitVec 1 := Scalar.ori v115_r0 v61_r0
  let c0_i32_105_r0 : BitVec 32 := 0#32
  let v117_r0 : BitVec 1 := Scalar.cmpi .sge arg8_r0 c0_i32_105_r0
  let v118_r0 : BitVec 1 := Scalar.andi v116_r0 v117_r0
  let v119_r0 : BitVec 32 := Scalar.extui v118_r0
  let c0_i32_106_r0 : BitVec 32 := 0#32
  let v120_r0 : BitVec 1 := Scalar.cmpi .ne v119_r0 c0_i32_106_r0
  v120_r0

def k0_off16 (arg12_r0 : BitVec 32) : Fin 3 → Nat :=
  let c2_i32_151_r0 : BitVec 32 := 2#32
  let v207_r0 : BitVec 32 := Scalar.remui arg12_r0 c2_i32_151_r0
  let c0_i32_152_r0 : BitVec 32 := 0#32
  let c0_i32_153_r0 : BitVec 32 := 0#32
  ![v207_r0.toNat, 0, 0]
def k0_off17 (arg15_r0 : BitVec 32) : Fin 2 → Nat :=
  let c96_i32_r0 : BitVec 32 := 96#32
  let c0_i32_69_r0 : BitVec 32 := 0#32
  let v63_r0 : BitVec 32 := Scalar.addi arg15_r0 c0_i32_69_r0
  let v206_r0 : BitVec 32 := Scalar.muli c96_i32_r0 v63_r0
  let c0_i32_154_r0 : BitVec 32 := 0#32
  ![v206_r0.toNat, 0]
def k0_off18 (arg14_r0 : BitVec 32) : Fin 1 → Nat :=
  let c2_i32_151_r0 : BitVec 32 := 2#32
  let v207_r0 : BitVec 32 := Scalar.remui arg14_r0 c2_i32_151_r0
  ![v207_r0.toNat]
def k0_cond6 (k0_t1 : Fin k0_t1_loop.trips) (arg15_r0 : BitVec 32) : BitVec 1 :=
  let c0_i32_69_r0 : BitVec 32 := 0#32
  let v63_r0 : BitVec 32 := Scalar.addi arg15_r0 c0_i32_69_r0
  let true_71_r0 : BitVec 1 := 1#1
  let c1_i32_70_r0 : BitVec 32 := 1#32
  let v64_r0 : BitVec 32 := Scalar.subi arg15_r0 c1_i32_70_r0
  let v65_r0 : BitVec 32 := Scalar.select true_71_r0 v64_r0 arg15_r0
  let c_m1_i32_72_r0 : BitVec 32 := 4294967295#32
  let v66_r0 : BitVec 1 := Scalar.cmpi .eq v65_r0 c_m1_i32_72_r0
  let c15_i32_73_r0 : BitVec 32 := 15#32
  let v67_r0 : BitVec 32 := Scalar.select v66_r0 c15_i32_73_r0 v65_r0
  let c0_i32_74_r0 : BitVec 32 := 0#32
  let v68_r0 : BitVec 32 := Scalar.addi v67_r0 c0_i32_74_r0
  let v121_r0 : BitVec 1 := Scalar.cmpi .ne v63_r0 v68_r0
  let c0_i32_43_r0 : BitVec 32 := 0#32
  let c1_i32_45_r0 : BitVec 32 := 1#32
  let arg8_r0 : BitVec 32 := Scf.iv c0_i32_43_r0 c1_i32_45_r0 k0_t1
  let c0_i32_67_r0 : BitVec 32 := 0#32
  let v61_r0 : BitVec 1 := Scalar.cmpi .eq arg8_r0 c0_i32_67_r0
  let v122_r0 : BitVec 1 := Scalar.ori v121_r0 v61_r0
  let c0_i32_107_r0 : BitVec 32 := 0#32
  let v123_r0 : BitVec 1 := Scalar.cmpi .sge arg8_r0 c0_i32_107_r0
  let v124_r0 : BitVec 1 := Scalar.andi v122_r0 v123_r0
  let v125_r0 : BitVec 32 := Scalar.extui v124_r0
  let c0_i32_108_r0 : BitVec 32 := 0#32
  let v126_r0 : BitVec 1 := Scalar.cmpi .ne v125_r0 c0_i32_108_r0
  v126_r0

def k0_off19 (arg14_r0 : BitVec 32) : Fin 3 → Nat :=
  let c2_i32_151_r0 : BitVec 32 := 2#32
  let v207_r0 : BitVec 32 := Scalar.remui arg14_r0 c2_i32_151_r0
  let c0_i32_152_r0 : BitVec 32 := 0#32
  let c0_i32_153_r0 : BitVec 32 := 0#32
  ![v207_r0.toNat, 0, 0]
def k0_off20 (arg15_r0 : BitVec 32) : Fin 2 → Nat :=
  let c96_i32_r0 : BitVec 32 := 96#32
  let c0_i32_69_r0 : BitVec 32 := 0#32
  let v63_r0 : BitVec 32 := Scalar.addi arg15_r0 c0_i32_69_r0
  let v206_r0 : BitVec 32 := Scalar.muli c96_i32_r0 v63_r0
  let c0_i32_154_r0 : BitVec 32 := 0#32
  ![v206_r0.toNat, 0]

def k0_chk1 (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) : Prop :=
  (∀ (k0_h1 : k0_cond1 k0_t1 arg15_r0 = 1#1), ∀ a, (k0_off3 arg9_r0) a + S1.size a ≤ S2.size a) ∧
  (∀ (k0_h1 : k0_cond1 k0_t1 arg15_r0 = 1#1), ∀ a, (k0_off4 arg9_r0) a + S1x96x1024.size a ≤ S2x96x1024.size a) ∧
  (∀ (k0_h1 : k0_cond1 k0_t1 arg15_r0 = 1#1), ∀ a, (k0_off5 arg15_r0) a + S96x1024.size a ≤ S1536x1024.size a) ∧
  (∀ (k0_h2 : k0_cond2 k0_t1 arg15_r0 = 1#1), ∀ a, (k0_off6 arg11_r0) a + S1.size a ≤ S2.size a) ∧
  (∀ (k0_h2 : k0_cond2 k0_t1 arg15_r0 = 1#1), ∀ a, (k0_off7 arg11_r0) a + S1x96x1024.size a ≤ S2x96x1024.size a) ∧
  (∀ (k0_h2 : k0_cond2 k0_t1 arg15_r0 = 1#1), ∀ a, (k0_off8 arg15_r0) a + S96x1024.size a ≤ S1536x1024.size a) ∧
  (∀ (k0_h3 : k0_cond3 k0_t1 arg15_r0 = 1#1), ∀ a, (k0_off9 arg13_r0) a + S1.size a ≤ S2.size a) ∧
  (∀ (k0_h3 : k0_cond3 k0_t1 arg15_r0 = 1#1), ∀ a, (k0_off10 arg13_r0) a + S1x96x1024.size a ≤ S2x96x1024.size a) ∧
  (∀ (k0_h3 : k0_cond3 k0_t1 arg15_r0 = 1#1), ∀ a, (k0_off11 arg15_r0) a + S96x1024.size a ≤ S1536x1024.size a) ∧
  (∀ (k0_h4 : k0_cond4 k0_t1 arg15_r0 = 1#1), ∀ a, (k0_off12 arg10_r0) a + S1.size a ≤ S2.size a) ∧
  (∀ (k0_h4 : k0_cond4 k0_t1 arg15_r0 = 1#1), ∀ a, (k0_off13 arg10_r0) a + S1x96x1024.size a ≤ S2x96x1024.size a) ∧
  (∀ (k0_h4 : k0_cond4 k0_t1 arg15_r0 = 1#1), ∀ a, (k0_off14 arg15_r0) a + S96x1024.size a ≤ S1536x1024.size a) ∧
  (∀ (k0_h5 : k0_cond5 k0_t1 arg15_r0 = 1#1), ∀ a, (k0_off15 arg12_r0) a + S1.size a ≤ S2.size a) ∧
  (∀ (k0_h5 : k0_cond5 k0_t1 arg15_r0 = 1#1), ∀ a, (k0_off16 arg12_r0) a + S1x96x1024.size a ≤ S2x96x1024.size a) ∧
  (∀ (k0_h5 : k0_cond5 k0_t1 arg15_r0 = 1#1), ∀ a, (k0_off17 arg15_r0) a + S96x1024.size a ≤ S1536x1024.size a) ∧
  (∀ (k0_h6 : k0_cond6 k0_t1 arg15_r0 = 1#1), ∀ a, (k0_off18 arg14_r0) a + S1.size a ≤ S2.size a) ∧
  (∀ (k0_h6 : k0_cond6 k0_t1 arg15_r0 = 1#1), ∀ a, (k0_off19 arg14_r0) a + S1x96x1024.size a ≤ S2x96x1024.size a) ∧
  (∀ (k0_h6 : k0_cond6 k0_t1 arg15_r0 = 1#1), ∀ a, (k0_off20 arg15_r0) a + S96x1024.size a ≤ S1536x1024.size a)
theorem k0_off3_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg9_r0 arg10_r0 arg11_r0 arg12_r0 arg13_r0 arg14_r0 arg15_r0), ∀ (k0_h1 : k0_cond1 k0_t1 arg15_r0 = 1#1), ∀ a, (k0_off3 arg9_r0) a + S1.size a ≤ S2.size a := fun k0_t1 arg9_r0 arg10_r0 arg11_r0 arg12_r0 arg13_r0 arg14_r0 arg15_r0 k0_hw1 k0_h1 => k0_hw1.1 k0_h1
theorem k0_off4_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg9_r0 arg10_r0 arg11_r0 arg12_r0 arg13_r0 arg14_r0 arg15_r0), ∀ (k0_h1 : k0_cond1 k0_t1 arg15_r0 = 1#1), ∀ a, (k0_off4 arg9_r0) a + S1x96x1024.size a ≤ S2x96x1024.size a := fun k0_t1 arg9_r0 arg10_r0 arg11_r0 arg12_r0 arg13_r0 arg14_r0 arg15_r0 k0_hw1 k0_h1 => k0_hw1.2.1 k0_h1
theorem k0_off5_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg9_r0 arg10_r0 arg11_r0 arg12_r0 arg13_r0 arg14_r0 arg15_r0), ∀ (k0_h1 : k0_cond1 k0_t1 arg15_r0 = 1#1), ∀ a, (k0_off5 arg15_r0) a + S96x1024.size a ≤ S1536x1024.size a := fun k0_t1 arg9_r0 arg10_r0 arg11_r0 arg12_r0 arg13_r0 arg14_r0 arg15_r0 k0_hw1 k0_h1 => k0_hw1.2.2.1 k0_h1
theorem k0_off6_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg9_r0 arg10_r0 arg11_r0 arg12_r0 arg13_r0 arg14_r0 arg15_r0), ∀ (k0_h2 : k0_cond2 k0_t1 arg15_r0 = 1#1), ∀ a, (k0_off6 arg11_r0) a + S1.size a ≤ S2.size a := fun k0_t1 arg9_r0 arg10_r0 arg11_r0 arg12_r0 arg13_r0 arg14_r0 arg15_r0 k0_hw1 k0_h2 => k0_hw1.2.2.2.1 k0_h2
theorem k0_off7_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg9_r0 arg10_r0 arg11_r0 arg12_r0 arg13_r0 arg14_r0 arg15_r0), ∀ (k0_h2 : k0_cond2 k0_t1 arg15_r0 = 1#1), ∀ a, (k0_off7 arg11_r0) a + S1x96x1024.size a ≤ S2x96x1024.size a := fun k0_t1 arg9_r0 arg10_r0 arg11_r0 arg12_r0 arg13_r0 arg14_r0 arg15_r0 k0_hw1 k0_h2 => k0_hw1.2.2.2.2.1 k0_h2
theorem k0_off8_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg9_r0 arg10_r0 arg11_r0 arg12_r0 arg13_r0 arg14_r0 arg15_r0), ∀ (k0_h2 : k0_cond2 k0_t1 arg15_r0 = 1#1), ∀ a, (k0_off8 arg15_r0) a + S96x1024.size a ≤ S1536x1024.size a := fun k0_t1 arg9_r0 arg10_r0 arg11_r0 arg12_r0 arg13_r0 arg14_r0 arg15_r0 k0_hw1 k0_h2 => k0_hw1.2.2.2.2.2.1 k0_h2
theorem k0_off9_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg9_r0 arg10_r0 arg11_r0 arg12_r0 arg13_r0 arg14_r0 arg15_r0), ∀ (k0_h3 : k0_cond3 k0_t1 arg15_r0 = 1#1), ∀ a, (k0_off9 arg13_r0) a + S1.size a ≤ S2.size a := fun k0_t1 arg9_r0 arg10_r0 arg11_r0 arg12_r0 arg13_r0 arg14_r0 arg15_r0 k0_hw1 k0_h3 => k0_hw1.2.2.2.2.2.2.1 k0_h3
theorem k0_off10_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg9_r0 arg10_r0 arg11_r0 arg12_r0 arg13_r0 arg14_r0 arg15_r0), ∀ (k0_h3 : k0_cond3 k0_t1 arg15_r0 = 1#1), ∀ a, (k0_off10 arg13_r0) a + S1x96x1024.size a ≤ S2x96x1024.size a := fun k0_t1 arg9_r0 arg10_r0 arg11_r0 arg12_r0 arg13_r0 arg14_r0 arg15_r0 k0_hw1 k0_h3 => k0_hw1.2.2.2.2.2.2.2.1 k0_h3
theorem k0_off11_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg9_r0 arg10_r0 arg11_r0 arg12_r0 arg13_r0 arg14_r0 arg15_r0), ∀ (k0_h3 : k0_cond3 k0_t1 arg15_r0 = 1#1), ∀ a, (k0_off11 arg15_r0) a + S96x1024.size a ≤ S1536x1024.size a := fun k0_t1 arg9_r0 arg10_r0 arg11_r0 arg12_r0 arg13_r0 arg14_r0 arg15_r0 k0_hw1 k0_h3 => k0_hw1.2.2.2.2.2.2.2.2.1 k0_h3
theorem k0_off12_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg9_r0 arg10_r0 arg11_r0 arg12_r0 arg13_r0 arg14_r0 arg15_r0), ∀ (k0_h4 : k0_cond4 k0_t1 arg15_r0 = 1#1), ∀ a, (k0_off12 arg10_r0) a + S1.size a ≤ S2.size a := fun k0_t1 arg9_r0 arg10_r0 arg11_r0 arg12_r0 arg13_r0 arg14_r0 arg15_r0 k0_hw1 k0_h4 => k0_hw1.2.2.2.2.2.2.2.2.2.1 k0_h4
theorem k0_off13_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg9_r0 arg10_r0 arg11_r0 arg12_r0 arg13_r0 arg14_r0 arg15_r0), ∀ (k0_h4 : k0_cond4 k0_t1 arg15_r0 = 1#1), ∀ a, (k0_off13 arg10_r0) a + S1x96x1024.size a ≤ S2x96x1024.size a := fun k0_t1 arg9_r0 arg10_r0 arg11_r0 arg12_r0 arg13_r0 arg14_r0 arg15_r0 k0_hw1 k0_h4 => k0_hw1.2.2.2.2.2.2.2.2.2.2.1 k0_h4
theorem k0_off14_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg9_r0 arg10_r0 arg11_r0 arg12_r0 arg13_r0 arg14_r0 arg15_r0), ∀ (k0_h4 : k0_cond4 k0_t1 arg15_r0 = 1#1), ∀ a, (k0_off14 arg15_r0) a + S96x1024.size a ≤ S1536x1024.size a := fun k0_t1 arg9_r0 arg10_r0 arg11_r0 arg12_r0 arg13_r0 arg14_r0 arg15_r0 k0_hw1 k0_h4 => k0_hw1.2.2.2.2.2.2.2.2.2.2.2.1 k0_h4
theorem k0_off15_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg9_r0 arg10_r0 arg11_r0 arg12_r0 arg13_r0 arg14_r0 arg15_r0), ∀ (k0_h5 : k0_cond5 k0_t1 arg15_r0 = 1#1), ∀ a, (k0_off15 arg12_r0) a + S1.size a ≤ S2.size a := fun k0_t1 arg9_r0 arg10_r0 arg11_r0 arg12_r0 arg13_r0 arg14_r0 arg15_r0 k0_hw1 k0_h5 => k0_hw1.2.2.2.2.2.2.2.2.2.2.2.2.1 k0_h5
theorem k0_off16_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg9_r0 arg10_r0 arg11_r0 arg12_r0 arg13_r0 arg14_r0 arg15_r0), ∀ (k0_h5 : k0_cond5 k0_t1 arg15_r0 = 1#1), ∀ a, (k0_off16 arg12_r0) a + S1x96x1024.size a ≤ S2x96x1024.size a := fun k0_t1 arg9_r0 arg10_r0 arg11_r0 arg12_r0 arg13_r0 arg14_r0 arg15_r0 k0_hw1 k0_h5 => k0_hw1.2.2.2.2.2.2.2.2.2.2.2.2.2.1 k0_h5
theorem k0_off17_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg9_r0 arg10_r0 arg11_r0 arg12_r0 arg13_r0 arg14_r0 arg15_r0), ∀ (k0_h5 : k0_cond5 k0_t1 arg15_r0 = 1#1), ∀ a, (k0_off17 arg15_r0) a + S96x1024.size a ≤ S1536x1024.size a := fun k0_t1 arg9_r0 arg10_r0 arg11_r0 arg12_r0 arg13_r0 arg14_r0 arg15_r0 k0_hw1 k0_h5 => k0_hw1.2.2.2.2.2.2.2.2.2.2.2.2.2.2.1 k0_h5
theorem k0_off18_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg9_r0 arg10_r0 arg11_r0 arg12_r0 arg13_r0 arg14_r0 arg15_r0), ∀ (k0_h6 : k0_cond6 k0_t1 arg15_r0 = 1#1), ∀ a, (k0_off18 arg14_r0) a + S1.size a ≤ S2.size a := fun k0_t1 arg9_r0 arg10_r0 arg11_r0 arg12_r0 arg13_r0 arg14_r0 arg15_r0 k0_hw1 k0_h6 => k0_hw1.2.2.2.2.2.2.2.2.2.2.2.2.2.2.2.1 k0_h6
theorem k0_off19_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg9_r0 arg10_r0 arg11_r0 arg12_r0 arg13_r0 arg14_r0 arg15_r0), ∀ (k0_h6 : k0_cond6 k0_t1 arg15_r0 = 1#1), ∀ a, (k0_off19 arg14_r0) a + S1x96x1024.size a ≤ S2x96x1024.size a := fun k0_t1 arg9_r0 arg10_r0 arg11_r0 arg12_r0 arg13_r0 arg14_r0 arg15_r0 k0_hw1 k0_h6 => k0_hw1.2.2.2.2.2.2.2.2.2.2.2.2.2.2.2.2.1 k0_h6
theorem k0_off20_inb : ∀ (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg9_r0 arg10_r0 arg11_r0 arg12_r0 arg13_r0 arg14_r0 arg15_r0), ∀ (k0_h6 : k0_cond6 k0_t1 arg15_r0 = 1#1), ∀ a, (k0_off20 arg15_r0) a + S96x1024.size a ≤ S1536x1024.size a := fun k0_t1 arg9_r0 arg10_r0 arg11_r0 arg12_r0 arg13_r0 arg14_r0 arg15_r0 k0_hw1 k0_h6 => k0_hw1.2.2.2.2.2.2.2.2.2.2.2.2.2.2.2.2.2 k0_h6

def k0_off21 (arg10_r0 : BitVec 32) : Fin 3 → Nat :=
  let c2_i32_109_r0 : BitVec 32 := 2#32
  let v127_r0 : BitVec 32 := Scalar.remui arg10_r0 c2_i32_109_r0
  let v130_r0 : Index := Scalar.indexCast v127_r0
  let c0_112_r0 : Index := 0#32
  let c0_113_r0 : Index := 0#32
  ![v130_r0.toNat, 0, 0]

def k0_chk2 (arg10_r0 : BitVec 32) : Prop :=
  (∀ a, (k0_off21 arg10_r0) a + S1x96x1024.size a ≤ S2x96x1024.size a)
theorem k0_off21_inb : ∀ (arg10_r0 : BitVec 32) (k0_hw2 : k0_chk2 arg10_r0), ∀ a, (k0_off21 arg10_r0) a + S1x96x1024.size a ≤ S2x96x1024.size a := fun arg10_r0 k0_hw2 => k0_hw2

def k0_off22 (arg12_r0 : BitVec 32) : Fin 3 → Nat :=
  let c2_i32_110_r0 : BitVec 32 := 2#32
  let v128_r0 : BitVec 32 := Scalar.remui arg12_r0 c2_i32_110_r0
  let v133_r0 : Index := Scalar.indexCast v128_r0
  let c0_114_r0 : Index := 0#32
  let c0_115_r0 : Index := 0#32
  ![v133_r0.toNat, 0, 0]

def k0_chk3 (arg12_r0 : BitVec 32) : Prop :=
  (∀ a, (k0_off22 arg12_r0) a + S1x96x1024.size a ≤ S2x96x1024.size a)
theorem k0_off22_inb : ∀ (arg12_r0 : BitVec 32) (k0_hw3 : k0_chk3 arg12_r0), ∀ a, (k0_off22 arg12_r0) a + S1x96x1024.size a ≤ S2x96x1024.size a := fun arg12_r0 k0_hw3 => k0_hw3

def k0_off23 (arg14_r0 : BitVec 32) : Fin 3 → Nat :=
  let c2_i32_111_r0 : BitVec 32 := 2#32
  let v129_r0 : BitVec 32 := Scalar.remui arg14_r0 c2_i32_111_r0
  let v137_r0 : Index := Scalar.indexCast v129_r0
  let c0_116_r0 : Index := 0#32
  let c0_117_r0 : Index := 0#32
  ![v137_r0.toNat, 0, 0]

def k0_chk4 (arg14_r0 : BitVec 32) : Prop :=
  (∀ a, (k0_off23 arg14_r0) a + S1x96x1024.size a ≤ S2x96x1024.size a)
theorem k0_off23_inb : ∀ (arg14_r0 : BitVec 32) (k0_hw4 : k0_chk4 arg14_r0), ∀ a, (k0_off23 arg14_r0) a + S1x96x1024.size a ≤ S2x96x1024.size a := fun arg14_r0 k0_hw4 => k0_hw4

abbrev stage0_0 : Fin 1 → Memref sig .tc .vmem S10x10x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10x8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "point_weight" => some ((25 / 393216 : ℝ) : EReal)
  | _ => none
-- ==== ReferenceIdeal.lean ====
abbrev S1024x6x16x16 : Shape := ⟨4, ![1024, 6, 16, 16]⟩
abbrev S1024x1x100 : Shape := ⟨3, ![1024, 1, 100]⟩
abbrev S1024x10x1 : Shape := ⟨3, ![1024, 10, 1]⟩
abbrev S1024 : Shape := ⟨1, ![1024]⟩
abbrev S_ : Shape := ⟨0, ![]⟩
abbrev S10 : Shape := ⟨1, ![10]⟩
abbrev S10x1 : Shape := ⟨2, ![10, 1]⟩
abbrev S1x10 : Shape := ⟨2, ![1, 10]⟩
abbrev S1024x1x1 : Shape := ⟨3, ![1024, 1, 1]⟩
abbrev S1x10x1 : Shape := ⟨3, ![1, 10, 1]⟩
abbrev S1x1x10 : Shape := ⟨3, ![1, 1, 10]⟩
abbrev S1024x1x10 : Shape := ⟨3, ![1024, 1, 10]⟩
abbrev S1024x10x10 : Shape := ⟨3, ![1024, 10, 10]⟩
abbrev S1024x10 : Shape := ⟨2, ![1024, 10]⟩

abbrev nBuf : Space → Nat
  | .hbm => 71
  | .vmem => 0
  | .smem => 0
  | _ => 0

abbrev bufTy : (tb : Table) → Fin (tcTables nBuf tb) → BufTy
  | .hbm, ⟨0, _⟩ => ⟨S1024x6x16x16, .f32⟩
  | .hbm, ⟨1, _⟩ => ⟨S1024x6x16x16, .f32⟩
  | .hbm, ⟨2, _⟩ => ⟨S1024x6x16x16, .f32⟩
  | .hbm, ⟨3, _⟩ => ⟨S1024x1x100, .f32⟩
  | .hbm, ⟨4, _⟩ => ⟨S1024x10x1, .i32⟩
  | .hbm, ⟨5, _⟩ => ⟨S1024, .i32⟩
  | .hbm, ⟨6, _⟩ => ⟨S1024x6x16x16, .f32⟩
  | .hbm, ⟨7, _⟩ => ⟨S1024x6x16x16, .f32⟩
  | .hbm, ⟨8, _⟩ => ⟨S1024x6x16x16, .f32⟩
  | .hbm, ⟨9, _⟩ => ⟨S1024x6x16x16, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S10, .i32⟩
  | .hbm, ⟨15, _⟩ => ⟨S10x1, .i32⟩
  | .hbm, ⟨16, _⟩ => ⟨S10, .i32⟩
  | .hbm, ⟨17, _⟩ => ⟨S1x10, .i32⟩
  | .hbm, ⟨18, _⟩ => ⟨S1024x1x1, .i32⟩
  | .hbm, ⟨19, _⟩ => ⟨S1x10x1, .i32⟩
  | .hbm, ⟨20, _⟩ => ⟨S1024x10x1, .i32⟩
  | .hbm, ⟨21, _⟩ => ⟨S1024x10x1, .i32⟩
  | .hbm, ⟨22, _⟩ => ⟨S1024x10x1, .i1⟩
  | .hbm, ⟨23, _⟩ => ⟨S1x1x10, .i32⟩
  | .hbm, ⟨24, _⟩ => ⟨S1024x1x10, .i32⟩
  | .hbm, ⟨25, _⟩ => ⟨S1024x1x10, .i32⟩
  | .hbm, ⟨26, _⟩ => ⟨S1024x1x10, .i1⟩
  | .hbm, ⟨27, _⟩ => ⟨S1024x10x10, .i1⟩
  | .hbm, ⟨28, _⟩ => ⟨S1024x10x10, .i1⟩
  | .hbm, ⟨29, _⟩ => ⟨S1024x10x10, .i1⟩
  | .hbm, ⟨30, _⟩ => ⟨S1024x10, .i32⟩
  | .hbm, ⟨31, _⟩ => ⟨S1x1x10, .i32⟩
  | .hbm, ⟨32, _⟩ => ⟨S1024x10x1, .i32⟩
  | .hbm, ⟨33, _⟩ => ⟨S1024x10x10, .i32⟩
  | .hbm, ⟨34, _⟩ => ⟨S1024x10x10, .i32⟩
  | .hbm, ⟨35, _⟩ => ⟨S1024x10x10, .i1⟩
  | .hbm, ⟨36, _⟩ => ⟨S1024x10x10, .i1⟩
  | .hbm, ⟨37, _⟩ => ⟨S1024x1x100, .i1⟩
  | .hbm, ⟨38, _⟩ => ⟨S1024x1x100, .f32⟩
  | .hbm, ⟨39, _⟩ => ⟨S1024x1x100, .i1⟩
  | .hbm, ⟨40, _⟩ => ⟨S1024x1x100, .f32⟩
  | .hbm, ⟨41, _⟩ => ⟨S1024x1x100, .f32⟩
  | .hbm, ⟨42, _⟩ => ⟨S_, .f32⟩
  | .hbm, ⟨43, _⟩ => ⟨S_, .f32⟩
  | .hbm, ⟨44, _⟩ => ⟨S1024x1x100, .f32⟩
  | .hbm, ⟨45, _⟩ => ⟨S1024x1x100, .f32⟩
  | .hbm, ⟨46, _⟩ => ⟨S_, .f32⟩
  | .hbm, ⟨47, _⟩ => ⟨S1024x1x100, .f32⟩
  | .hbm, ⟨48, _⟩ => ⟨S1024x1x100, .f32⟩
  | .hbm, ⟨49, _⟩ => ⟨S1024x1x100, .f32⟩
  | .hbm, ⟨50, _⟩ => ⟨S_, .f32⟩
  | .hbm, ⟨51, _⟩ => ⟨S_, .f32⟩
  | .hbm, ⟨52, _⟩ => ⟨S1024x1x100, .f32⟩
  | .hbm, ⟨53, _⟩ => ⟨S1024x1x100, .f32⟩
  | .hbm, ⟨54, _⟩ => ⟨S1024x1x100, .f32⟩
  | .hbm, ⟨55, _⟩ => ⟨S_, .f32⟩
  | .hbm, ⟨56, _⟩ => ⟨S1024x1x100, .f32⟩
  | .hbm, ⟨57, _⟩ => ⟨S1024x1x100, .f32⟩
  | .hbm, ⟨58, _⟩ => ⟨S1024x1x100, .f32⟩
  | .hbm, ⟨59, _⟩ => ⟨S1024x1x100, .f32⟩
  | .hbm, ⟨60, _⟩ => ⟨S1024x1x100, .f32⟩
  | .hbm, ⟨61, _⟩ => ⟨S1024x1x100, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S1024x6x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_1 : Ref sig .tc := ⟨.hbm, 42, rfl⟩
abbrev main_call0_v0 : Ref sig .tc := ⟨.hbm, 43, rfl⟩
abbrev main_call0_v1 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_call1_v0 : Ref sig .tc := ⟨.hbm, 51, rfl⟩
abbrev main_call1_v1 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Proof.Rings.lean ====
/-
  The names of the point pipeline: each of the three operands left in HBM is cut into sixteen blocks of 96 rows, which travel
  through a ring of two buffers, each buffer with its own DMA semaphore. Stated once for any of the three rings (the HBM
  array, the buffer and the semaphores are arguments), with the equations that turn the offsets the kernel computes from its
  counters into these names.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameSuffixV
public import Idealize.ShloMosaic.Lib.Ring
public import Idealize.ShloMosaic.Lib.Ring.Trips
public import Idealize.ShloMosaic.Lib.Affine
public import Idealize.ShloMosaic.Lib.Tactic

@[expose] public section

noncomputable section

namespace Cert.Proof.Rings

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resources: the pipeline library's rounds beside the counters that the kernel's own transfers ride on. -/
abbrev UU (nD : Nat) (τ : Topo) : Type := UR sig nD τ × Counters
local notation "𝕄" => MT nD τ sig Unit (Elt F) ℕ (UU nD τ) ℕ
abbrev 𝒱₀ : Variants := Variants.none

/-! ## Offsets -/

/-- Rows `96 b` to `96 b + 95` of an operand. -/
abbrev blkOff (b : Fin 16) : Fin 2 → Nat := ![96 * b.val, 0]
theorem blkOff_inb (b : Fin 16) : ∀ a, blkOff b a + S96x1024.size a ≤ S1536x1024.size a := by
  have := b.isLt; intro a; fin_cases a
  · show 96 * b.val + 96 ≤ 1536; omega
  · show 0 + 1024 ≤ 1024; omega
abbrev slotOff (s : Fin 2) : Fin 3 → Nat := ![s.val, 0, 0]
theorem slotOff_inb (s : Fin 2) : ∀ a, slotOff s a + S1x96x1024.size a ≤ S2x96x1024.size a := by
  have := s.isLt; intro a; fin_cases a
  · show s.val + 1 ≤ 2; omega
  · show 0 + 96 ≤ 96; omega
  · show 0 + 1024 ≤ 1024; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

instance (s : Fin 2) : ClosedOff (slotOff s) := ⟨slotOff s, rfl⟩
instance (b : Fin 16) : ClosedOff (blkOff b) := ⟨blkOff b, rfl⟩

/-- Block `b` of the operand `a`, as the body slices it. -/
def blk (a : Memref sig .tc .hbm S1536x1024 .f32) (b : Fin 16) : Memref sig .tc .hbm S96x1024 .f32 :=
  a.slice (Rect.unit (s := S1536x1024) (blkOff b) S96x1024.size (blkOff_inb b)) (fun _ => rfl)
/-- Slot `s` of the ring's buffer, as the body slices and squeezes it. -/
def slot (u : Memref sig .tc .vmem S2x96x1024 .f32) (s : Fin 2) : Memref sig .tc .vmem S96x1024 .f32 :=
  (u.slice (Rect.unit (s := S2x96x1024) (slotOff s) S1x96x1024.size (slotOff_inb s)) (fun _ => rfl)).squeeze S96x1024 squeezes_S1x96x1024_S96x1024
/-- Slot `s`'s DMA semaphore. -/
def csm (w : DmaSems sig S2) (s : Fin 2) : DmaSems sig S_ :=
  (w.slice (Rect.unit (s := S2) (semOff s) S1.size (semOff_inb s))).squeeze S_ squeezes_S1_S_

/-! ## The kernel's counters in closed form

Before trip `k` the counters of blocks sent are `k + 1` (never past sixteen), those of blocks awaited `k`, and the block
index `k` (zero again after the last trip). -/

theorem trips_eq : k0_t1_loop.trips = 16 := by decide

/-- A counter modulo two is the slot it names. -/
theorem rem_two (n : ℕ) : (Scalar.remui (BitVec.ofNat 32 n) 2#32).toNat = n % 2 := by
  simp only [Scalar.remui, IntOp.remui]
  have h : (2#32 : BitVec 32) ≠ 0 := by decide
  simp [h, BitVec.toNat_umod, BitVec.toNat_ofNat]

theorem sem_of (n : ℕ) : (![(Scalar.remui (BitVec.ofNat 32 n) 2#32).toNat] : Fin 1 → Nat) = semOff (Ring.sl 2 n) := by
  rw [rem_two]; rfl
theorem slot_of (n : ℕ) : (![(Scalar.remui (BitVec.ofNat 32 n) 2#32).toNat, 0, 0] : Fin 3 → Nat) = slotOff (Ring.sl 2 n) := by
  rw [rem_two]; rfl

theorem next_lits : ∀ n : Fin 15, k0_off5 (BitVec.ofNat 32 n.val) = blkOff ⟨n.val + 1, by omega⟩
    ∧ k0_off8 (BitVec.ofNat 32 n.val) = blkOff ⟨n.val + 1, by omega⟩ ∧ k0_off11 (BitVec.ofNat 32 n.val) = blkOff ⟨n.val + 1, by omega⟩ := by decide
theorem cur_lits : ∀ n : Fin 16, k0_off14 (BitVec.ofNat 32 n.val) = blkOff n
    ∧ k0_off17 (BitVec.ofNat 32 n.val) = blkOff n ∧ k0_off20 (BitVec.ofNat 32 n.val) = blkOff n := by decide

theorem bk_eq {n : ℕ} (h : n < 16) : Ring.bk 16 n = ⟨n, h⟩ := Fin.ext (Ring.bk_val h)

/-! ## The body's slices are these names (`@[sl_canon]`) -/

section Canon
variable (a : Memref sig .tc .hbm S1536x1024 .f32) (u : Memref sig .tc .vmem S2x96x1024 .f32) (w : DmaSems sig S2)

theorem csm_congr {off : Fin 1 → Nat} {s : Fin 2} (e : off = semOff s) (hh) :
    (w.slice (Rect.unit (s := S2) off S1.size hh)).squeeze S_ squeezes_S1_S_ = csm w s :=
  congrArg (fun A : DmaSems sig S1 => A.squeeze S_ squeezes_S1_S_) (SemArray.slice_unit_congr _ e _ _)
theorem slot_congr {off : Fin 3 → Nat} {s : Fin 2} (e : off = slotOff s) (hh hs) :
    (u.slice (Rect.unit (s := S2x96x1024) off S1x96x1024.size hh) hs).squeeze S96x1024 squeezes_S1x96x1024_S96x1024 = slot u s :=
  congrArg (fun M : Memref sig .tc .vmem S1x96x1024 .f32 => M.squeeze S96x1024 squeezes_S1x96x1024_S96x1024) (Memref.slice_unit_congr _ e _ _ _ _)
theorem blk_congr {off : Fin 2 → Nat} {b : Fin 16} (e : off = blkOff b) (hh hs) :
    a.slice (Rect.unit (s := S1536x1024) off S96x1024.size hh) hs = blk a b := Memref.slice_unit_congr _ e _ _ _ (fun _ => rfl)

/-- The offset of block `k + 1`, for a trip that sends one, and of block `k`. -/
theorem blk_next {n : ℕ} (h : n + 1 < 16) : blkOff ⟨n + 1, h⟩ = blkOff (Ring.bk 16 (n + 1)) := by rw [bk_eq h]
theorem blk_cur {n : ℕ} (h : n < 16) : blkOff ⟨n, h⟩ = blkOff (Ring.bk 16 n) := by rw [bk_eq h]

/-- The first blocks, sent before the loop, into slot 0. -/
@[sl_canon] theorem sem_first (hh) : (w.slice (Rect.unit (s := S2) k0_off1 S1.size hh)).squeeze S_ squeezes_S1_S_ = csm w 0 := csm_congr w (by decide) _
@[sl_canon] theorem slot_first (hh hs) : (u.slice (Rect.unit (s := S2x96x1024) k0_off2 S1x96x1024.size hh) hs).squeeze S96x1024 squeezes_S1x96x1024_S96x1024 = slot u 0 := slot_congr u (by decide) _ _
@[sl_canon] theorem blk_first (hh hs) : a.slice (Rect.unit (s := S1536x1024) ![0, 0] S96x1024.size hh) hs = blk a 0 := blk_congr a (by decide) _ _

/-- The first ring in a trip: the next block sent, this block awaited, this slot read. -/
@[sl_canon] theorem sem_send_p (n : ℕ) (hh) : (w.slice (Rect.unit (s := S2) (k0_off3 (BitVec.ofNat 32 n)) S1.size hh)).squeeze S_ squeezes_S1_S_ = csm w (Ring.sl 2 n) := csm_congr w (sem_of n) _
@[sl_canon] theorem slot_send_p (n : ℕ) (hh hs) : (u.slice (Rect.unit (s := S2x96x1024) (k0_off4 (BitVec.ofNat 32 n)) S1x96x1024.size hh) hs).squeeze S96x1024 squeezes_S1x96x1024_S96x1024 = slot u (Ring.sl 2 n) := slot_congr u (slot_of n) _ _
@[sl_canon] theorem blk_send_p (n : ℕ) (h : n + 1 < 16) (hh hs) : a.slice (Rect.unit (s := S1536x1024) (k0_off5 (BitVec.ofNat 32 n)) S96x1024.size hh) hs = blk a (Ring.bk 16 (n + 1)) := blk_congr a ((next_lits ⟨n, by omega⟩).1.trans (blk_next h)) _ _
@[sl_canon] theorem sem_wait_p (n : ℕ) (hh) : (w.slice (Rect.unit (s := S2) (k0_off12 (BitVec.ofNat 32 n)) S1.size hh)).squeeze S_ squeezes_S1_S_ = csm w (Ring.sl 2 n) := csm_congr w (sem_of n) _
@[sl_canon] theorem slot_wait_p (n : ℕ) (hh hs) : (u.slice (Rect.unit (s := S2x96x1024) (k0_off13 (BitVec.ofNat 32 n)) S1x96x1024.size hh) hs).squeeze S96x1024 squeezes_S1x96x1024_S96x1024 = slot u (Ring.sl 2 n) := slot_congr u (slot_of n) _ _
@[sl_canon] theorem blk_wait_p (n : ℕ) (h : n < 16) (hh hs) : a.slice (Rect.unit (s := S1536x1024) (k0_off14 (BitVec.ofNat 32 n)) S96x1024.size hh) hs = blk a (Ring.bk 16 n) := blk_congr a ((cur_lits ⟨n, h⟩).1.trans (blk_cur h)) _ _
instance (n : ℕ) : ClosedOff (k0_off21 (BitVec.ofNat 32 n)) := ⟨slotOff (Ring.sl 2 n), slot_of n⟩

/-- The second ring in a trip: the next block sent, this block awaited, this slot read. -/
@[sl_canon] theorem sem_send_t (n : ℕ) (hh) : (w.slice (Rect.unit (s := S2) (k0_off6 (BitVec.ofNat 32 n)) S1.size hh)).squeeze S_ squeezes_S1_S_ = csm w (Ring.sl 2 n) := csm_congr w (sem_of n) _
@[sl_canon] theorem slot_send_t (n : ℕ) (hh hs) : (u.slice (Rect.unit (s := S2x96x1024) (k0_off7 (BitVec.ofNat 32 n)) S1x96x1024.size hh) hs).squeeze S96x1024 squeezes_S1x96x1024_S96x1024 = slot u (Ring.sl 2 n) := slot_congr u (slot_of n) _ _
@[sl_canon] theorem blk_send_t (n : ℕ) (h : n + 1 < 16) (hh hs) : a.slice (Rect.unit (s := S1536x1024) (k0_off8 (BitVec.ofNat 32 n)) S96x1024.size hh) hs = blk a (Ring.bk 16 (n + 1)) := blk_congr a ((next_lits ⟨n, by omega⟩).2.1.trans (blk_next h)) _ _
@[sl_canon] theorem sem_wait_t (n : ℕ) (hh) : (w.slice (Rect.unit (s := S2) (k0_off15 (BitVec.ofNat 32 n)) S1.size hh)).squeeze S_ squeezes_S1_S_ = csm w (Ring.sl 2 n) := csm_congr w (sem_of n) _
@[sl_canon] theorem slot_wait_t (n : ℕ) (hh hs) : (u.slice (Rect.unit (s := S2x96x1024) (k0_off16 (BitVec.ofNat 32 n)) S1x96x1024.size hh) hs).squeeze S96x1024 squeezes_S1x96x1024_S96x1024 = slot u (Ring.sl 2 n) := slot_congr u (slot_of n) _ _
@[sl_canon] theorem blk_wait_t (n : ℕ) (h : n < 16) (hh hs) : a.slice (Rect.unit (s := S1536x1024) (k0_off17 (BitVec.ofNat 32 n)) S96x1024.size hh) hs = blk a (Ring.bk 16 n) := blk_congr a ((cur_lits ⟨n, h⟩).2.1.trans (blk_cur h)) _ _
instance (n : ℕ) : ClosedOff (k0_off22 (BitVec.ofNat 32 n)) := ⟨slotOff (Ring.sl 2 n), slot_of n⟩

/-- The third ring in a trip: the next block sent, this block awaited, this slot read. -/
@[sl_canon] theorem sem_send_m (n : ℕ) (hh) : (w.slice (Rect.unit (s := S2) (k0_off9 (BitVec.ofNat 32 n)) S1.size hh)).squeeze S_ squeezes_S1_S_ = csm w (Ring.sl 2 n) := csm_congr w (sem_of n) _
@[sl_canon] theorem slot_send_m (n : ℕ) (hh hs) : (u.slice (Rect.unit (s := S2x96x1024) (k0_off10 (BitVec.ofNat 32 n)) S1x96x1024.size hh) hs).squeeze S96x1024 squeezes_S1x96x1024_S96x1024 = slot u (Ring.sl 2 n) := slot_congr u (slot_of n) _ _
@[sl_canon] theorem blk_send_m (n : ℕ) (h : n + 1 < 16) (hh hs) : a.slice (Rect.unit (s := S1536x1024) (k0_off11 (BitVec.ofNat 32 n)) S96x1024.size hh) hs = blk a (Ring.bk 16 (n + 1)) := blk_congr a ((next_lits ⟨n, by omega⟩).2.2.trans (blk_next h)) _ _
@[sl_canon] theorem sem_wait_m (n : ℕ) (hh) : (w.slice (Rect.unit (s := S2) (k0_off18 (BitVec.ofNat 32 n)) S1.size hh)).squeeze S_ squeezes_S1_S_ = csm w (Ring.sl 2 n) := csm_congr w (sem_of n) _
@[sl_canon] theorem slot_wait_m (n : ℕ) (hh hs) : (u.slice (Rect.unit (s := S2x96x1024) (k0_off19 (BitVec.ofNat 32 n)) S1x96x1024.size hh) hs).squeeze S96x1024 squeezes_S1x96x1024_S96x1024 = slot u (Ring.sl 2 n) := slot_congr u (slot_of n) _ _
@[sl_canon] theorem blk_wait_m (n : ℕ) (h : n < 16) (hh hs) : a.slice (Rect.unit (s := S1536x1024) (k0_off20 (BitVec.ofNat 32 n)) S96x1024.size hh) hs = blk a (Ring.bk 16 n) := blk_congr a ((cur_lits ⟨n, h⟩).2.2.trans (blk_cur h)) _ _
instance (n : ℕ) : ClosedOff (k0_off23 (BitVec.ofNat 32 n)) := ⟨slotOff (Ring.sl 2 n), slot_of n⟩

end Canon

/-! ## The conditions and checks of a trip, and the counters it passes on -/

/-- What a trip passes to the next: whether blocks were sent (`e`), the counters as the body computes them. -/
theorem conds : ∀ k : Fin k0_t1_loop.trips, (k0_cond1 k (BitVec.ofNat 32 k.val) = 1#1 ↔ k.val < 15)
    ∧ (k0_cond2 k (BitVec.ofNat 32 k.val) = 1#1 ↔ k.val < 15) ∧ (k0_cond3 k (BitVec.ofNat 32 k.val) = 1#1 ↔ k.val < 15)
    ∧ k0_cond4 k (BitVec.ofNat 32 k.val) = 1#1 ∧ k0_cond5 k (BitVec.ofNat 32 k.val) = 1#1 ∧ k0_cond6 k (BitVec.ofNat 32 k.val) = 1#1 := by decide

theorem chk2 : ∀ k : Fin k0_t1_loop.trips, k0_chk2 (BitVec.ofNat 32 k.val) ∧ k0_chk3 (BitVec.ofNat 32 k.val) ∧ k0_chk4 (BitVec.ofNat 32 k.val) := by decide
theorem chk1 : ∀ k : Fin k0_t1_loop.trips, k0_chk1 k (BitVec.ofNat 32 (k.val + 1)) (BitVec.ofNat 32 k.val) (BitVec.ofNat 32 (k.val + 1)) (BitVec.ofNat 32 k.val) (BitVec.ofNat 32 (k.val + 1)) (BitVec.ofNat 32 k.val) (BitVec.ofNat 32 k.val) := by decide

/-! ## The pieces: a block home, a slot held, a slot's cell, a slot in flight -/

section Pieces
variable (a : Memref sig .tc .hbm S1536x1024 .f32) (u : Memref sig .tc .vmem S2x96x1024 .f32) (w : DmaSems sig S2)
  (c : Dev nD) (XA : Buf (Elt F) (a.view.loc (c : Thread nD τ)))

abbrev cellP (s : Fin 2) : sProp 𝕄 := semVal ((c : Thread nD τ), SemLoc.dma (csm w s).sem) 0
abbrev slotP (s : Fin 2) (f : Buf (Elt F) ((slot u s).view.loc (c : Thread nD τ))) : sProp 𝕄 :=
  (slot u s).view.loc (c : Thread nD τ) ↦[(slot u s).view.set]{fullShare} f
/-- Block `b` home: held on its elements at the operand's contents. -/
abbrev homeP (b : Fin 16) : sProp 𝕄 := (blk a b).view.loc (c : Thread nD τ) ↦[(blk a b).view.set]{fullShare} XA
/-- Block `b`'s words as a slot's payload. -/
abbrev payload (b : Fin 16) : S96x1024.Idx → Elt F .f32 := ReadAs.same.apply ((blk a b).view.read (Elt F) XA)
/-- What block `b`'s transfer leaves in slot `s` over prior contents `f`: the block, written whole. -/
abbrev landed (s : Fin 2) (b : Fin 16) (f : Buf (Elt F) ((slot u s).view.loc (c : Thread nD τ))) : Buf (Elt F) ((slot u s).view.loc (c : Thread nD τ)) :=
  (slot u s).view.writes (Elt F) f [⟨Rect.whole S96x1024, payload a c XA b⟩]
/-- A block's transfer moves 12288 units on its cell. -/
abbrev NN : ℕ := 12288
/-- Slot `s` in flight with block `b`, sent over `f`. -/
abbrev flightP (s : Fin 2) (b : Fin 16) (f : Buf (Elt F) ((slot u s).view.loc (c : Thread nD τ))) : sProp 𝕄 :=
  Transfers.Flight countersEmb (c : Thread nD τ) (SemLoc.dma (csm w s).sem) () NN iprop(slotP u c s (landed a u c XA s b f) ∗ homeP a c XA b)

/-- A trip's homes: the block about to go out beside the rest; -/
theorem homes_here (k : ℕ) (hk : k + 1 < 16) :
    bigSep (Ring.homeSet 1 k) (homeP a c XA) = iprop(homeP a c XA (Ring.bk 16 (k + 1)) ∗ bigSep ((Ring.homeSet 1 k).erase (Ring.bk 16 (k + 1))) (homeP a c XA)) := by
  conv_lhs => rw [Ring.homeSet_out 1 k hk, bigSep_insert (Ring.bkL_not_mem_erase 1 k)]
  rfl
/-- the next trip's homes: the block just back beside that rest; -/
theorem homes_next (k : ℕ) (hk : k + 1 < 16) :
    bigSep (Ring.homeSet 1 (k + 1)) (homeP a c XA) = iprop(homeP a c XA (Ring.bk 16 k) ∗ bigSep ((Ring.homeSet 1 k).erase (Ring.bk 16 (k + 1))) (homeP a c XA)) := by
  conv_lhs => rw [Ring.homeSet_succ 1 k hk, bigSep_insert (Ring.bk_not_mem_erase 1 k (by omega) (by decide))]
  rfl
/-- after the last trip, the last block back beside the others. -/
theorem homes_tail (k : ℕ) (hk : k = 15) :
    bigSep (Ring.homeSet 1 (k + 1)) (homeP a c XA) = iprop(homeP a c XA (Ring.bk 16 k) ∗ bigSep (Ring.homeSet 1 k) (homeP a c XA)) := by
  conv_lhs => rw [Ring.homeSet_succ_tail 1 k (by omega) (by omega), bigSep_insert (Ring.bk_not_mem_homeSet 1 k (by omega) (by decide))]
  rfl

/-- One ring before trip `k`: the blocks not in flight home; block `k` in flight in slot `k % 2` (that slot free and its
    cell at zero when no block is left); the other slot free, its cell at zero. -/
def ringAt (k : ℕ) : sProp 𝕄 :=
  iprop(bigSep (Ring.homeSet 1 k) (homeP a c XA)
    ∗ Ring.roleAt iprop((∃ f, slotP u c (Ring.sl 2 k) f) ∗ cellP w c (Ring.sl 2 k)) (fun b : Fin 16 => iprop(∃ f, flightP a u w c XA (Ring.sl 2 k) b f)) k
    ∗ (∃ f, slotP u c (Ring.sl 2 (k + 1)) f) ∗ cellP w c (Ring.sl 2 (k + 1)))

theorem sl_two (k : ℕ) : Ring.sl 2 (k + 1 + 1) = Ring.sl 2 k := by rw [show k + 1 + 1 = k + 2 from rfl, Ring.sl_add]

end Pieces

end Cert.Proof.Rings

end
-- ==== Proof.Trip.lean ====
/-
  One trip of the point pipeline's loop, at a symbolic trip: the next block of each operand sent, this block of each awaited,
  its weighted squares added to the accumulator, and on the first trip the edge part added too.
-/
module

public import proofs.«01_k».proof.Proof.Rings
public import Idealize.ShloMosaic.Lib.VecWindow

@[expose] public section

noncomputable section

namespace Cert.Proof.Rings

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-! ## The refs the kernel allocates, and the three operands -/

abbrev pM : Memref sig .tc .hbm S1536x1024 .f32 := Memref.whole main_v1
abbrev tM : Memref sig .tc .hbm S1536x1024 .f32 := Memref.whole main_v3
abbrev kM : Memref sig .tc .hbm S1536x1024 .f32 := Memref.whole main_v5
abbrev uP : Memref sig .tc .vmem S2x96x1024 .f32 := Memref.whole cc0_scoped0
abbrev uT : Memref sig .tc .vmem S2x96x1024 .f32 := Memref.whole cc0_scoped2
abbrev uK : Memref sig .tc .vmem S2x96x1024 .f32 := Memref.whole cc0_scoped4
abbrev nM : Memref sig .tc .smem S1 .i32 := Memref.whole cc0_scratch0

section Trip
variable (c : Dev nD) (XP : Buf (Elt F) (pM.view.loc (c : Thread nD τ))) (XT : Buf (Elt F) (tM.view.loc (c : Thread nD τ)))
  (XK : Buf (Elt F) (kM.view.loc (c : Thread nD τ)))
  (arg3 : Memref sig .tc .vmem S10x10x8x128 .f32) (harg3 : arg3.IsWhole) (arg4 : Memref sig .tc .vmem S10x8x128 .i32) (harg4 : arg4.IsWhole)
  (arg5 : Memref sig .tc .vmem S8x128 .i32) (harg5 : arg5.IsWhole) (arg6 : Memref sig .tc .smem S1x1 .f32) (harg6 : arg6.IsWhole)
  (fe : Buf (Elt F) (arg3.view.loc (c : Thread nD τ))) (fy : Buf (Elt F) (arg4.view.loc (c : Thread nD τ))) (fn : Buf (Elt F) (arg5.view.loc (c : Thread nD τ)))

/-- The edge operands' staging buffers and the accumulator's, and the step counter. -/
abbrev eP : sProp 𝕄 := arg3.view.loc (c : Thread nD τ) ↦[arg3.view.set]{fullShare} fe
abbrev yP : sProp 𝕄 := arg4.view.loc (c : Thread nD τ) ↦[arg4.view.set]{fullShare} fy
abbrev nP : sProp 𝕄 := arg5.view.loc (c : Thread nD τ) ↦[arg5.view.set]{fullShare} fn
abbrev oP (fo : Buf (Elt F) (arg6.view.loc (c : Thread nD τ))) : sProp 𝕄 := arg6.view.loc (c : Thread nD τ) ↦[arg6.view.set]{fullShare} fo
abbrev cP (fc : Buf (Elt F) (nM.view.loc (c : Thread nD τ))) : sProp 𝕄 := nM.view.loc (c : Thread nD τ) ↦[nM.view.set]{fullShare} fc

abbrev R00 : Rect S1x1 := Rect.unit (s := S1x1) ![0, 0] S1x1.size inb_S1x1_S1x1_0_0
abbrev R0 : Rect S1 := Rect.unit (s := S1) ![0] S1.size inb_S1_S1_0

abbrev tripG (k : Fin k0_t1_loop.trips) (v24 : BitVec 32) (acc : BitVec 32 × BitVec 32 × BitVec 32 × BitVec 32 × BitVec 32 × BitVec 32 × BitVec 32) :=
  k0_t1_body (F := F) pM (Memref.isWhole_whole _) tM (Memref.isWhole_whole _) kM (Memref.isWhole_whole _) arg3 harg3 arg4 harg4 arg5 harg5 arg6 harg6
    nM (Memref.isWhole_whole _) uP (Memref.isWhole_whole _) cc0_scoped1 uT (Memref.isWhole_whole _) cc0_scoped3 uK (Memref.isWhole_whole _) cc0_scoped5 v24 k acc

/-! ## What a trip computes -/

/-- The accumulator `o` after one block: the block's sum of squares `((p - t) m)²`, weighted, added. -/
def pointStep (p t m : FVec F S96x1024 .f32) (o : F .f32) : F .f32 :=
  Scalar.addf o (Scalar.mulf (Named.named κ "point_weight" 0x38855555#32)
    (extractAt ![0, 0, 0] (shapeCast S1x1x1 (multiReduction .add [1, 2] S1
      (shapeCast S1x96x1024 (mulf (mulf (subf p t) m) (mulf (subf p t) m)) shapeCasts_S96x1024_S1x96x1024) 0x00000000#32 reduces_S1x96x1024_S1 (.inl rfl) rfl)
      shapeCasts_S1_S1x1x1) inpos_S1x1x1_p0_0_0))

theorem pay1_eq (p t m : Vec F S1x96x1024 .f32) (o : Elt F .f32) :
    k0_pay1 p t m o = pointStep (shapeCast S96x1024 p shapeCasts_S1x96x1024_S96x1024) (shapeCast S96x1024 t shapeCasts_S1x96x1024_S96x1024)
      (shapeCast S96x1024 m shapeCasts_S1x96x1024_S96x1024) o := rfl

/-- A slot read through the whole buffer, in the kernel's two-axis shape, is the block that landed there. -/
theorem got (u : Memref sig .tc .vmem S2x96x1024 .f32) (s : Fin 2) (off : Fin 3 → ℕ) (hh) (e : off = slotOff s) (f) (x : S96x1024.Idx → Elt F .f32) :
    shapeCast S96x1024 (u.view.readAt (Elt F) (Rect.unit (s := S2x96x1024) off S1x96x1024.size hh).toLoadRect
      ((slot u s).view.writes (Elt F) f [⟨Rect.whole S96x1024, x⟩])) shapeCasts_S1x96x1024_S96x1024 = x := by
  subst e
  exact View.read_writes_whole (slot u s).view f x

/-- The first trip is the one whose step counter reads zero. -/
theorem first_trip : ∀ k : Fin k0_t1_loop.trips,
    (Scalar.cmpi .ne (Scalar.extui (Scalar.cmpi .eq (BitVec.ofNat 32 k.val) 0#32) : BitVec 32) 0#32 = 1#1 ↔ k.val = 0) := by decide

/-- The counters passed on: one more block awaited, one more sent if there was one to send, the next block's index. -/
def accAt (k : ℕ) : BitVec 32 × BitVec 32 × BitVec 32 × BitVec 32 × BitVec 32 × BitVec 32 × BitVec 32 :=
  (BitVec.ofNat 32 (min (k + 1) 16), BitVec.ofNat 32 k, BitVec.ofNat 32 (min (k + 1) 16), BitVec.ofNat 32 k,
    BitVec.ofNat 32 (min (k + 1) 16), BitVec.ofNat 32 k, BitVec.ofNat 32 (k % 16))

/-- The accumulator after trip `k`, from its value `v` before: the block's part, and on the first trip the edge part. -/
def nextAcc (k : ℕ) (v : F .f32) : F .f32 :=
  if k = 0 then k0_pay2 (pointStep (payload pM c XP (Ring.bk 16 k)) (payload tM c XT (Ring.bk 16 k)) (payload kM c XK (Ring.bk 16 k)) v)
    (arg3.view.read (Elt F) fe) (arg4.view.read (Elt F) fy) (arg5.view.read (Elt F) fn)
  else pointStep (payload pM c XP (Ring.bk 16 k)) (payload tM c XT (Ring.bk 16 k)) (payload kM c XK (Ring.bk 16 k)) v

/-- The accumulator's buffer holding `v`, the step counter's holding `k`. -/
abbrev oAt (v : F .f32) : sProp 𝕄 := oP c arg6 (arg6.view.rep (fun _ => v))
abbrev cAt (k : ℕ) : sProp 𝕄 := cP c (nM.view.rep (fun _ => (BitVec.ofNat 32 k : Elt F .i32)))

/-- The accumulator's buffer after a trip's stores: the second store counts where its condition holds. -/
theorem o_stored (fo) (cnd : BitVec 1) (a b : F .f32) :
    oP c arg6 (if hc : cnd = 1#1 then arg6.view.writes (Elt F) fo [⟨R00, fun _ => b⟩, ⟨R00, fun _ => a⟩] else arg6.view.writes (Elt F) fo [⟨R00, fun _ => a⟩])
      = oAt c arg6 (if cnd = 1#1 then b else a) := by
  split
  · rw [oP, pointsTo_rep, View.read_writes_full]; rfl
  · rw [oP, pointsTo_rep, View.read_writes_full]; rfl

theorem c_stored (fc) (v : BitVec 32) (k : ℕ) (h : v = BitVec.ofNat 32 k) :
    cP c (nM.view.writes (Elt F) fc [⟨R0, fun _ => v⟩]) = cAt c k := by
  subst h; rw [cP, pointsTo_rep, View.read_writes_full]; rfl

/-- So after a trip's stores, from the blocks as the slots deliver them, it holds the next value. -/
theorem o_next (k : ℕ) (fo) (cnd : BitVec 1) (hc : cnd = 1#1 ↔ k = 0) (p t m : Vec F S1x96x1024 .f32) (w v : F .f32) (hv : w = v)
    (hp : shapeCast S96x1024 p shapeCasts_S1x96x1024_S96x1024 = payload pM c XP (Ring.bk 16 k))
    (ht : shapeCast S96x1024 t shapeCasts_S1x96x1024_S96x1024 = payload tM c XT (Ring.bk 16 k))
    (hm : shapeCast S96x1024 m shapeCasts_S1x96x1024_S96x1024 = payload kM c XK (Ring.bk 16 k)) :
    oP c arg6 (if hc : cnd = 1#1 then arg6.view.writes (Elt F) fo [⟨R00, fun _ => k0_pay2 (k0_pay1 p t m w)
        (View.readAt (Elt F) arg3.view (Rect.unit ![0, 0, 0, 0] S10x10x8x128.size inb_S10x10x8x128_S10x10x8x128_0_0_0_0).toLoadRect fe)
        (View.readAt (Elt F) arg4.view (Rect.unit ![0, 0, 0] S10x8x128.size inb_S10x8x128_S10x8x128_0_0_0).toLoadRect fy)
        (View.readAt (Elt F) arg5.view (Rect.unit ![0, 0] S8x128.size inb_S8x128_S8x128_0_0).toLoadRect fn)⟩, ⟨R00, fun _ => k0_pay1 p t m w⟩]
      else arg6.view.writes (Elt F) fo [⟨R00, fun _ => k0_pay1 p t m w⟩])
      ⊢ oAt c arg6 (nextAcc c XP XT XK arg3 arg4 arg5 fe fy fn k v) := by
  subst hv
  refine Entails.of_eq ((o_stored c arg6 fo cnd _ _).trans ?_)
  rw [View.readAt_full, View.readAt_full, View.readAt_full, pay1_eq, hp, ht, hm, nextAcc]
  simp only [hc]

/-- And the step counter one more. -/
theorem c_next : ∀ k : Fin k0_t1_loop.trips, Scalar.addi (BitVec.ofNat 32 k.val) 1#32 = BitVec.ofNat 32 (k.val + 1) := by decide

/-- The resources before trip `k`, the accumulator at `v`. -/
def resAt (k : ℕ) (v : F .f32) : sProp 𝕄 :=
  iprop(oAt c arg6 v ∗ cAt c k ∗ eP c arg3 fe ∗ yP c arg4 fy ∗ nP c arg5 fn ∗ ringAt pM uP cc0_scoped1 c XP k ∗ ringAt tM uT cc0_scoped3 c XT k
    ∗ ringAt kM uK cc0_scoped5 c XK k ∗ ∃ W, owes (c : Thread nD τ) 0 W)

set_option maxHeartbeats 400000 in
set_option backward.proofsInPublic true in
/-- A trip that sends the next blocks (every trip but the last). -/
theorem trip_mid (k : Fin k0_t1_loop.trips) (hk : k.val + 1 < 16) (v24 : BitVec 32) (v : F .f32) :
    resAt c XP XT XK arg3 arg4 arg5 arg6 fe fy fn k v
     ⊢ wp frame (wpE (defs₀ (F := F)) 𝒱₀ (c : Thread nD τ) none) Set.univ (tripG arg3 harg3 arg4 harg4 arg5 harg5 arg6 harg6 k v24
       (BitVec.ofNat 32 (k.val + 1), BitVec.ofNat 32 k.val, BitVec.ofNat 32 (k.val + 1), BitVec.ofNat 32 k.val, BitVec.ofNat 32 (k.val + 1), BitVec.ofNat 32 k.val, BitVec.ofNat 32 k.val))
        (fun acc => iprop(⌜acc = accAt (k.val + 1)⌝ ∗ resAt c XP XT XK arg3 arg4 arg5 arg6 fe fy fn (k.val + 1) (nextAcc c XP XT XK arg3 arg4 arg5 fe fy fn k v))) := by
  have hk16 : k.val < 16 := by omega
  obtain ⟨h1, h2, h3, h4, h5, h6⟩ := conds k
  replace h1 := h1.2 (by omega)
  replace h2 := h2.2 (by omega)
  replace h3 := h3.2 (by omega)
  obtain ⟨g2, g3, g4⟩ := chk2 k
  have g1 := chk1 k
  unfold resAt ringAt
  rw [homes_here pM c XP k.val hk, homes_here tM c XT k.val hk, homes_here kM c XK k.val hk, homes_next pM c XP k.val hk, homes_next tM c XT k.val hk,
    homes_next kM c XK k.val hk, Ring.roleAt_of_lt _ _ _ hk16, Ring.roleAt_of_lt _ _ _ hk16, Ring.roleAt_of_lt _ _ _ hk16,
    Ring.roleAt_of_lt _ _ _ hk, Ring.roleAt_of_lt _ _ _ hk, Ring.roleAt_of_lt _ _ _ hk, sl_two]
  iintro ⟨HO, HC, HE, HY, HN, ⟨⟨Hg1, Hr1⟩, ⟨%f1, HF1⟩, ⟨%s1, HS1⟩, HX1⟩, ⟨⟨Hg2, Hr2⟩, ⟨%f2, HF2⟩, ⟨%s2, HS2⟩, HX2⟩, ⟨⟨Hg3, Hr3⟩, ⟨%f3, HF3⟩, ⟨%s3, HS3⟩, HX3⟩, ⟨%W, HW⟩⟩
  dsimp only [tripG]
  sl_unfold [k0_t1_body]
  sl_exec
  sl_step
  have ha : ∀ k : Fin k0_t1_loop.trips, k.val + 1 < 16 → trip_mid.sl.v88_r0 k = BitVec.ofNat 32 (min (k.val + 1 + 1) 16) ∧ trip_mid.sl.r_3 k = BitVec.ofNat 32 (k.val + 1)
      ∧ trip_mid.sl.v70_r0 k = BitVec.ofNat 32 (k.val + 1) ∧ trip_mid.sl.v72_r0 k = BitVec.ofNat 32 ((k.val + 1) % 16) := by decide
  obtain ⟨a1, a2, a3, a4⟩ := ha k hk
  have hr : trip_mid.sl.r (F := F) arg6 v = v := congrFun (View.readAt_rep _ _ _) _
  have hn : trip_mid.sl.r_1 (F := F) k = BitVec.ofNat 32 k.val := congrFun (View.readAt_rep _ _ _) _
  have hz : trip_mid.sl.v153_r0 (F := F) k = 1#1 ↔ k.val = 0 := by
    show (Scalar.cmpi .ne (Scalar.extui (Scalar.cmpi .eq (trip_mid.sl.r_1 (F := F) k) 0#32) : BitVec 32) 0#32 = 1#1 ↔ k.val = 0)
    rw [hn]; exact first_trip k
  have hs : trip_mid.sl.v155_r0 (F := F) k = BitVec.ofNat 32 (k.val + 1) := by
    show Scalar.addi (trip_mid.sl.r_1 (F := F) k) 1#32 = _
    rw [hn]; exact c_next k
  have hp : shapeCast S96x1024 (trip_mid.sl.v131_r0 c XP k g2) shapeCasts_S1x96x1024_S96x1024 = payload pM c XP (Ring.bk 16 k) :=
    got uP (Ring.sl 2 k) (k0_off21 (BitVec.ofNat 32 k.val)) _ (slot_of k) _ (payload pM c XP (Ring.bk 16 k))
  have ht : shapeCast S96x1024 (trip_mid.sl.v134_r0 c XT k g3) shapeCasts_S1x96x1024_S96x1024 = payload tM c XT (Ring.bk 16 k) :=
    got uT (Ring.sl 2 k) (k0_off22 (BitVec.ofNat 32 k.val)) _ (slot_of k) _ (payload tM c XT (Ring.bk 16 k))
  have hm : shapeCast S96x1024 (trip_mid.sl.v138_r0 c XK k g4) shapeCasts_S1x96x1024_S96x1024 = payload kM c XK (Ring.bk 16 k) :=
    got uK (Ring.sl 2 k) (k0_off23 (BitVec.ofNat 32 k.val)) _ (slot_of k) _ (payload kM c XK (Ring.bk 16 k))
  isplitr; · ipureintro; rw [a1, a2, a3, a4]; rfl
  isplitl [HO]
  · iapply (o_next c XP XT XK arg3 arg4 arg5 arg6 fe fy fn k (arg6.view.rep fun _ => v) (trip_mid.sl.v153_r0 (F := F) k) hz
      (trip_mid.sl.v131_r0 c XP k g2) (trip_mid.sl.v134_r0 c XT k g3) (trip_mid.sl.v138_r0 c XK k g4) _ v hr
      hp ht hm)
    iexact HO
  isplitl [HC]
  · iapply (Entails.of_eq (c_stored c _ _ _ hs)); iexact HC
  isplitl [HE]; · iexact HE
  isplitl [HY]; · iexact HY
  isplitl [HN]; · iexact HN
  isplitl [HX1 HF1_src Hr1 HF1_dst HF1]
  · isplitl [HF1_src Hr1]; · isplitl [HF1_src] <;> iassumption
    isplitl [HX1]; · iexists s1; iexact HX1
    isplitl [HF1_dst]; · iexists _; iexact HF1_dst
    iexact HF1
  isplitl [HX2 HF2_src Hr2 HF2_dst HF2]
  · isplitl [HF2_src Hr2]; · isplitl [HF2_src] <;> iassumption
    isplitl [HX2]; · iexists s2; iexact HX2
    isplitl [HF2_dst]; · iexists _; iexact HF2_dst
    iexact HF2
  isplitl [HX3 HF3_src Hr3 HF3_dst HF3]
  · isplitl [HF3_src Hr3]; · isplitl [HF3_src] <;> iassumption
    isplitl [HX3]; · iexists s3; iexact HX3
    isplitl [HF3_dst]; · iexists _; iexact HF3_dst
    iexact HF3
  iexists _; iexact HW

set_option maxHeartbeats 400000 in
set_option backward.proofsInPublic true in
/-- The last trip, which sends nothing: its slots and cells are left free. -/
theorem trip_last (k : Fin k0_t1_loop.trips) (hk : k.val = 15) (v24 : BitVec 32) (v : F .f32) :
    resAt c XP XT XK arg3 arg4 arg5 arg6 fe fy fn k v
     ⊢ wp frame (wpE (defs₀ (F := F)) 𝒱₀ (c : Thread nD τ) none) Set.univ (tripG arg3 harg3 arg4 harg4 arg5 harg5 arg6 harg6 k v24
       (BitVec.ofNat 32 (k.val + 1), BitVec.ofNat 32 k.val, BitVec.ofNat 32 (k.val + 1), BitVec.ofNat 32 k.val, BitVec.ofNat 32 (k.val + 1), BitVec.ofNat 32 k.val, BitVec.ofNat 32 k.val))
        (fun acc => iprop(⌜acc = accAt (k.val + 1)⌝ ∗ resAt c XP XT XK arg3 arg4 arg5 arg6 fe fy fn (k.val + 1) (nextAcc c XP XT XK arg3 arg4 arg5 fe fy fn k v))) := by
  have hk16 : k.val < 16 := by omega
  obtain ⟨h1, h2, h3, h4, h5, h6⟩ := conds k
  replace h1 : ¬ k0_cond1 k (BitVec.ofNat 32 k.val) = 1#1 := fun h => absurd (h1.1 h) (by omega)
  replace h2 : ¬ k0_cond2 k (BitVec.ofNat 32 k.val) = 1#1 := fun h => absurd (h2.1 h) (by omega)
  replace h3 : ¬ k0_cond3 k (BitVec.ofNat 32 k.val) = 1#1 := fun h => absurd (h3.1 h) (by omega)
  obtain ⟨g2, g3, g4⟩ := chk2 k
  have g1 := chk1 k
  unfold resAt ringAt
  rw [homes_tail pM c XP k.val hk, homes_tail tM c XT k.val hk, homes_tail kM c XK k.val hk,
    Ring.roleAt_of_lt _ _ _ hk16, Ring.roleAt_of_lt _ _ _ hk16, Ring.roleAt_of_lt _ _ _ hk16,
    Ring.roleAt_of_le _ _ (k.val + 1) (by omega), Ring.roleAt_of_le _ _ (k.val + 1) (by omega), Ring.roleAt_of_le _ _ (k.val + 1) (by omega), sl_two]
  iintro ⟨HO, HC, HE, HY, HN, ⟨Hr1, ⟨%f1, HF1⟩, HS1, HX1⟩, ⟨Hr2, ⟨%f2, HF2⟩, HS2, HX2⟩, ⟨Hr3, ⟨%f3, HF3⟩, HS3, HX3⟩, ⟨%W, HW⟩⟩
  dsimp only [tripG]
  sl_unfold [k0_t1_body]
  sl_exec
  sl_step
  have ha : ∀ k : Fin k0_t1_loop.trips, k.val = 15 → trip_last.sl.v88_r0 k = BitVec.ofNat 32 (min (k.val + 1 + 1) 16) ∧ trip_last.sl.r_3 k = BitVec.ofNat 32 (k.val + 1)
      ∧ trip_last.sl.v70_r0 k = BitVec.ofNat 32 (k.val + 1) ∧ trip_last.sl.v72_r0 k = BitVec.ofNat 32 ((k.val + 1) % 16) := by decide
  obtain ⟨a1, a2, a3, a4⟩ := ha k hk
  have hr : trip_last.sl.r (F := F) arg6 v = v := congrFun (View.readAt_rep _ _ _) _
  have hn : trip_last.sl.r_1 (F := F) k = BitVec.ofNat 32 k.val := congrFun (View.readAt_rep _ _ _) _
  have hz : trip_last.sl.v153_r0 (F := F) k = 1#1 ↔ k.val = 0 := by
    show (Scalar.cmpi .ne (Scalar.extui (Scalar.cmpi .eq (trip_last.sl.r_1 (F := F) k) 0#32) : BitVec 32) 0#32 = 1#1 ↔ k.val = 0)
    rw [hn]; exact first_trip k
  have hs : trip_last.sl.v155_r0 (F := F) k = BitVec.ofNat 32 (k.val + 1) := by
    show Scalar.addi (trip_last.sl.r_1 (F := F) k) 1#32 = _
    rw [hn]; exact c_next k
  have hp : shapeCast S96x1024 (trip_last.sl.v131_r0 c XP k g2) shapeCasts_S1x96x1024_S96x1024 = payload pM c XP (Ring.bk 16 k) :=
    got uP (Ring.sl 2 k) (k0_off21 (BitVec.ofNat 32 k.val)) _ (slot_of k) _ (payload pM c XP (Ring.bk 16 k))
  have ht : shapeCast S96x1024 (trip_last.sl.v134_r0 c XT k g3) shapeCasts_S1x96x1024_S96x1024 = payload tM c XT (Ring.bk 16 k) :=
    got uT (Ring.sl 2 k) (k0_off22 (BitVec.ofNat 32 k.val)) _ (slot_of k) _ (payload tM c XT (Ring.bk 16 k))
  have hm : shapeCast S96x1024 (trip_last.sl.v138_r0 c XK k g4) shapeCasts_S1x96x1024_S96x1024 = payload kM c XK (Ring.bk 16 k) :=
    got uK (Ring.sl 2 k) (k0_off23 (BitVec.ofNat 32 k.val)) _ (slot_of k) _ (payload kM c XK (Ring.bk 16 k))
  isplitr; · ipureintro; rw [a1, a2, a3, a4]; rfl
  isplitl [HO]
  · iapply (o_next c XP XT XK arg3 arg4 arg5 arg6 fe fy fn k (arg6.view.rep fun _ => v) (trip_last.sl.v153_r0 (F := F) k) hz
      (trip_last.sl.v131_r0 c XP k g2) (trip_last.sl.v134_r0 c XT k g3) (trip_last.sl.v138_r0 c XK k g4) _ v hr
      hp ht hm)
    iexact HO
  isplitl [HC]
  · iapply (Entails.of_eq (c_stored c _ _ _ hs)); iexact HC
  isplitl [HE]; · iexact HE
  isplitl [HY]; · iexact HY
  isplitl [HN]; · iexact HN
  isplitl [HX1 HS1 HF1_src Hr1 HF1_dst HF1]
  · isplitl [HF1_src Hr1]; · isplitl [HF1_src] <;> iassumption
    isplitl [HX1 HS1]; · isplitl [HS1] <;> iassumption
    isplitl [HF1_dst]; · iexists _; iexact HF1_dst
    iexact HF1
  isplitl [HX2 HS2 HF2_src Hr2 HF2_dst HF2]
  · isplitl [HF2_src Hr2]; · isplitl [HF2_src] <;> iassumption
    isplitl [HX2 HS2]; · isplitl [HS2] <;> iassumption
    isplitl [HF2_dst]; · iexists _; iexact HF2_dst
    iexact HF2
  isplitl [HX3 HS3 HF3_src Hr3 HF3_dst HF3]
  · isplitl [HF3_src Hr3]; · isplitl [HF3_src] <;> iassumption
    isplitl [HX3 HS3]; · isplitl [HS3] <;> iassumption
    isplitl [HF3_dst]; · iexists _; iexact HF3_dst
    iexact HF3
  iexists _; iexact HW

/-- The accumulator before trip `k`. -/
def accOf : ℕ → F .f32
  | 0 => Scalar.ofBits .f32 0x00000000#32
  | k + 1 => nextAcc c XP XT XK arg3 arg4 arg5 fe fy fn k (accOf k)

/-- What the loop holds before trip `k`: the counters, the resources, the accumulator at the parts of the trips before. -/
def invAt (k : ℕ) (acc : BitVec 32 × BitVec 32 × BitVec 32 × BitVec 32 × BitVec 32 × BitVec 32 × BitVec 32) : sProp 𝕄 :=
  iprop(⌜acc = accAt k⌝ ∗ resAt c XP XT XK arg3 arg4 arg5 arg6 fe fy fn k (accOf c XP XT XK arg3 arg4 arg5 fe fy fn k))

theorem accAt_lt {k : ℕ} (h : k < 16) : accAt k = (BitVec.ofNat 32 (k + 1), BitVec.ofNat 32 k, BitVec.ofNat 32 (k + 1), BitVec.ofNat 32 k,
    BitVec.ofNat 32 (k + 1), BitVec.ofNat 32 k, BitVec.ofNat 32 k) := by
  rw [accAt, Nat.min_eq_left h, Nat.mod_eq_of_lt h]

set_option warn.classDefReducibility false in
/-- The loop's invariant. -/
def loopInv (v24 : BitVec 32) :
    LoopInvTy_k0_t1 (F := F) Unit ℕ (UU nD τ) ℕ 𝒱₀ c none Set.univ pM (Memref.isWhole_whole _) tM (Memref.isWhole_whole _) kM (Memref.isWhole_whole _) arg3 harg3
      arg4 harg4 arg5 harg5 arg6 harg6 nM (Memref.isWhole_whole _) uP (Memref.isWhole_whole _) cc0_scoped1 uT (Memref.isWhole_whole _) cc0_scoped3
      uK (Memref.isWhole_whole _) cc0_scoped5 v24 (1#32, 0#32, 1#32, 0#32, 1#32, 0#32, 0#32) where
  inv k acc := invAt c XP XT XK arg3 arg4 arg5 arg6 fe fy fn k acc
  step k acc := by
    have hk : k.val < 16 := Nat.lt_of_lt_of_eq k.isLt trips_eq
    unfold invAt
    iintro ⟨%e, H⟩
    subst e
    rw [accAt_lt hk]
    by_cases h : k.val + 1 < 16
    · iapply (trip_mid c XP XT XK arg3 harg3 arg4 harg4 arg5 harg5 arg6 harg6 fe fy fn k h v24 _); iexact H
    · iapply (trip_last c XP XT XK arg3 harg3 arg4 harg4 arg5 harg5 arg6 harg6 fe fy fn k (by omega) v24 _); iexact H

end Trip

end Cert.Proof.Rings

end
-- ==== Proof.Body.lean ====
/-
  The kernel's body: the accumulator and the step counter zeroed, the first blocks sent, the sixteen trips by the loop's
  invariant, everything handed back.
-/
module

public import proofs.«01_k».proof.Proof.Trip

@[expose] public section

noncomputable section

namespace Cert.Proof.Rings

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

section Ends
variable (a : Memref sig .tc .hbm S1536x1024 .f32) (u : Memref sig .tc .vmem S2x96x1024 .f32) (w : DmaSems sig S2)
  (c : Dev nD) (XA : Buf (Elt F) (a.view.loc (c : Thread nD τ)))

/-- A ring at rest: every block home, both slots free, both cells at zero. -/
def ringRest : sProp 𝕄 :=
  iprop(bigSep Finset.univ (homeP a c XA) ∗ (∃ f, slotP u c 0 f) ∗ (∃ f, slotP u c 1 f) ∗ cellP w c 0 ∗ cellP w c 1)

/-- At rest, block 0 apart from the others: what the first transfer takes. -/
theorem ringRest_eq : ringRest a u w c XA =
    iprop((homeP a c XA 0 ∗ bigSep (Ring.homeSet 1 0) (homeP a c XA)) ∗ (∃ f, slotP u c 0 f) ∗ (∃ f, slotP u c 1 f) ∗ cellP w c 0 ∗ cellP w c 1) := by
  have e : (Finset.univ : Finset (Fin 16)) = insert 0 (Ring.homeSet 1 0) := by decide
  have h : (0 : Fin 16) ∉ Ring.homeSet (NB := 16) 1 0 := by decide
  rw [ringRest, e, bigSep_insert h]; rfl

/-- Before the first trip: block 0 in flight. -/
theorem ringAt_zero : ringAt a u w c XA 0 =
    iprop(bigSep (Ring.homeSet 1 0) (homeP a c XA) ∗ (∃ f, flightP a u w c XA 0 0 f) ∗ (∃ f, slotP u c 1 f) ∗ cellP w c 1) := by
  rw [ringAt, Ring.roleAt_of_lt _ _ _ (by decide)]; rfl

/-- After the last trip the ring is at rest. -/
theorem ringAt_end : ringAt a u w c XA 16 ⊢ ringRest a u w c XA := by
  rw [ringAt, Ring.roleAt_of_le _ _ _ (by decide), Ring.homeSet_last _ _ (by decide), ringRest]
  iintro ⟨Hh, ⟨H0, C0⟩, H1, C1⟩
  isplitl [Hh]; · iexact Hh
  isplitl [H0]; · iexact H0
  isplitl [H1]; · iexact H1
  isplitl [C0]; · iexact C0
  iexact C1

end Ends

section Body
variable (c : Dev nD) (XP : Buf (Elt F) (pM.view.loc (c : Thread nD τ))) (XT : Buf (Elt F) (tM.view.loc (c : Thread nD τ)))
  (XK : Buf (Elt F) (kM.view.loc (c : Thread nD τ)))
  (arg3 : Memref sig .tc .vmem S10x10x8x128 .f32) (harg3 : arg3.IsWhole) (arg4 : Memref sig .tc .vmem S10x8x128 .i32) (harg4 : arg4.IsWhole)
  (arg5 : Memref sig .tc .vmem S8x128 .i32) (harg5 : arg5.IsWhole) (arg6 : Memref sig .tc .smem S1x1 .f32) (harg6 : arg6.IsWhole)
  (fe : Buf (Elt F) (arg3.view.loc (c : Thread nD τ))) (fy : Buf (Elt F) (arg4.view.loc (c : Thread nD τ))) (fn : Buf (Elt F) (arg5.view.loc (c : Thread nD τ)))

/-- The body on the given staging buffers, the operands in HBM, the rings and the step counter its own. -/
abbrev bodyG : Prog (TpuEff nD τ sig (Elt F) Λ₀ .tc) PUnit :=
  cc0__outer pM (Memref.isWhole_whole _) tM (Memref.isWhole_whole _) kM (Memref.isWhole_whole _) arg3 harg3 arg4 harg4 arg5 harg5 arg6 harg6
    nM (Memref.isWhole_whole _) uP (Memref.isWhole_whole _) cc0_scoped1 uT (Memref.isWhole_whole _) cc0_scoped3 uK (Memref.isWhole_whole _) cc0_scoped5

/-- What the body is handed besides the accumulator and the counter, and hands back. -/
abbrev KEEP : sProp 𝕄 :=
  iprop(eP c arg3 fe ∗ yP c arg4 fy ∗ nP c arg5 fn ∗ ringRest pM uP cc0_scoped1 c XP ∗ ringRest tM uT cc0_scoped3 c XT ∗ ringRest kM uK cc0_scoped5 c XK)

/-- What the loop needs at its start. -/
theorem inv_zero (fo fc) (ho : arg6.view.read (Elt F) fo = fun _ => (Scalar.ofBits .f32 0x00000000#32 : F .f32))
    (hc : nM.view.read (Elt F) fc = fun _ => (0#32 : Elt F .i32)) :
    iprop(oP c arg6 fo ∗ cP c fc ∗ eP c arg3 fe ∗ yP c arg4 fy ∗ nP c arg5 fn ∗ ringAt pM uP cc0_scoped1 c XP 0 ∗ ringAt tM uT cc0_scoped3 c XT 0
        ∗ ringAt kM uK cc0_scoped5 c XK 0 ∗ ∃ W, owes (c : Thread nD τ) 0 W)
      ⊢ invAt c XP XT XK arg3 arg4 arg5 arg6 fe fy fn 0 (1#32, 0#32, 1#32, 0#32, 1#32, 0#32, 0#32) := by
  rw [invAt, resAt, oP, cP, pointsTo_rep (c := (c : Thread nD τ)) (m := arg6) (g := fo), ho, pointsTo_rep (c := (c : Thread nD τ)) (m := nM) (g := fc), hc]
  iintro H
  isplitr; · ipureintro; rfl
  iexact H

/-- The invariant the loop is entered with. -/
theorem loop_in (v24 : BitVec 32) (acc) : invAt c XP XT XK arg3 arg4 arg5 arg6 fe fy fn 0 acc
    ⊢ (loopInv c XP XT XK arg3 harg3 arg4 harg4 arg5 harg5 arg6 harg6 fe fy fn v24).inv 0 acc := Entails.of_eq rfl

/-- The invariant the loop is left with. -/
theorem loop_out (v24 : BitVec 32) (acc) : (loopInv c XP XT XK arg3 harg3 arg4 harg4 arg5 harg5 arg6 harg6 fe fy fn v24).inv
      (Scf.trips k0_t1_loop.lb k0_t1_loop.ub k0_t1_loop.st) acc
    ⊢ invAt c XP XT XK arg3 arg4 arg5 arg6 fe fy fn 16 acc :=
  Entails.of_eq (congrArg (fun k => invAt c XP XT XK arg3 arg4 arg5 arg6 fe fy fn k acc) trips_eq)

set_option backward.proofsInPublic true in
/-- The body: from anything in the accumulator and the counter, the accumulator at the sixteen trips' value. -/
theorem bodyRun (fo fc W) (Q : PUnit → sProp 𝕄) :
    iprop((oP c arg6 fo ∗ cP c fc ∗ KEEP c XP XT XK arg3 arg4 arg5 fe fy fn ∗ owes (c : Thread nD τ) 0 W)
        ∗ ((oAt c arg6 (accOf c XP XT XK arg3 arg4 arg5 fe fy fn 16) ∗ cAt c 16 ∗ KEEP c XP XT XK arg3 arg4 arg5 fe fy fn ∗ ∃ W, owes (c : Thread nD τ) 0 W) -∗ Q ⟨⟩))
      ⊢ wp frame (wpE (defs₀ (F := F)) 𝒱₀ (c : Thread nD τ) none) Set.univ (bodyG arg3 harg3 arg4 harg4 arg5 harg5 arg6 harg6) Q := by
  rw [KEEP, ringRest_eq, ringRest_eq, ringRest_eq]
  iintro ⟨⟨HO, HC, ⟨HE, HY, HN, ⟨⟨Hg1, Hr1⟩, ⟨%f1, HS1⟩, ⟨%s1, HT1⟩, HX1, HZ1⟩, ⟨⟨Hg2, Hr2⟩, ⟨%f2, HS2⟩, ⟨%s2, HT2⟩, HX2, HZ2⟩, ⟨⟨Hg3, Hr3⟩, ⟨%f3, HS3⟩, ⟨%s3, HT3⟩, HX3, HZ3⟩⟩, HW⟩, Hk⟩
  sl_exec
  ihave HI := (inv_zero c XP XT XK arg3 arg4 arg5 arg6 fe fy fn _ _ (View.read_writes_full _ _ _ _ _) (View.read_writes_full _ _ _ _ _))
    $$ [HO HC HE HY HN Hr1 HX1 HT1 HZ1 Hr2 HX2 HT2 HZ2 Hr3 HX3 HT3 HZ3 HW]
  · isplitl [HO]; · iexact HO
    isplitl [HC]; · iexact HC
    isplitl [HE]; · iexact HE
    isplitl [HY]; · iexact HY
    isplitl [HN]; · iexact HN
    rw [ringAt_zero, ringAt_zero, ringAt_zero]
    isplitl [Hr1 HX1 HT1 HZ1]
    · isplitl [Hr1]; · iexact Hr1
      isplitl [HX1]; · iexists f1; iexact HX1
      isplitl [HT1]; · iexists s1; iexact HT1
      iexact HZ1
    isplitl [Hr2 HX2 HT2 HZ2]
    · isplitl [Hr2]; · iexact Hr2
      isplitl [HX2]; · iexists f2; iexact HX2
      isplitl [HT2]; · iexists s2; iexact HT2
      iexact HZ2
    isplitl [Hr3 HX3 HT3 HZ3]
    · isplitl [Hr3]; · iexact Hr3
      isplitl [HX3]; · iexists f3; iexact HX3
      isplitl [HT3]; · iexists s3; iexact HT3
      iexact HZ3
    iexists _; iexact HW
  iapply (exec_loop Idealize.ShloMosaic.frame (wpE (defs₀ (F := F)) 𝒱₀ (c : Thread nD τ) none) Set.univ _ _ _ k0_t1_ok _ _
    (loopInv c XP XT XK arg3 harg3 arg4 harg4 arg5 harg5 arg6 harg6 fe fy fn 1#32)) $$ [HI]
  · iapply (loop_in c XP XT XK arg3 harg3 arg4 harg4 arg5 harg5 arg6 harg6 fe fy fn 1#32 _); iexact HI
  iintro %acc HI
  ihave HI := (loop_out c XP XT XK arg3 harg3 arg4 harg4 arg5 harg5 arg6 harg6 fe fy fn 1#32 acc) $$ HI
  unfold invAt resAt
  icases HI with ⟨%e, HO, HC, HE, HY, HN, HR1, HR2, HR3, HW⟩
  subst e
  sl_exec
  sl_step
  iapply Hk
  isplitl [HO]; · iexact HO
  isplitl [HC]; · iexact HC
  isplitl [HE HY HN HR1 HR2 HR3]
  · isplitl [HE]; · iexact HE
    isplitl [HY]; · iexact HY
    isplitl [HN]; · iexact HN
    isplitl [HR1]
    · iapply (Entails.of_eq (ringRest_eq pM uP cc0_scoped1 c XP)); iapply (ringAt_end pM uP cc0_scoped1 c XP); iexact HR1
    isplitl [HR2]
    · iapply (Entails.of_eq (ringRest_eq tM uT cc0_scoped3 c XT)); iapply (ringAt_end tM uT cc0_scoped3 c XT); iexact HR2
    iapply (Entails.of_eq (ringRest_eq kM uK cc0_scoped5 c XK)); iapply (ringAt_end kM uK cc0_scoped5 c XK); iexact HR3
  iexact HW

end Body

end Cert.Proof.Rings

end
-- ==== Proof.Launch.lean ====
/-
  The launch: what the region is handed covers what the body takes, the body's run is the region's obligation, and the whole
  program runs — the host lines before the region, the region, the line after it — to the value the body leaves.
-/
module

public import proofs.«01_k».proof.Proof.Body
public import proofs.«01_k».proof.Proof.Gen.KernelIdeal.Frame
public import Idealize.ShloMosaic.Lib.Pipeline.ValueKit

@[expose] public section

noncomputable section

namespace Cert.Proof.Rings

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

/-! ## Element sets: an operand's sixteen blocks of rows, a buffer's two slots -/

abbrev rowsAt (b : Fin 16) : Finset S1536x1024.Idx := (Rect.unit (s := S1536x1024) (blkOff b) S96x1024.size (blkOff_inb b)).set
abbrev slotAt (s : Fin 2) : Finset S2x96x1024.Idx := (Rect.unit (s := S2x96x1024) (slotOff s) S1x96x1024.size (slotOff_inb s)).set

/-- A row belongs to the block its number divided by 96 names. -/
theorem mem_rowsAt (b : Fin 16) (y : S1536x1024.Idx) : y ∈ rowsAt b ↔ (y 0).val / 96 = b.val := by
  rw [Rect.mem_set_unit]
  have h1 : (y 1).val < 1024 := (y 1).isLt
  constructor
  · intro H; have a0 : 96 * b.val ≤ (y 0).val ∧ (y 0).val < 96 * b.val + 96 := H 0; omega
  · intro H i; fin_cases i
    · show 96 * b.val ≤ (y 0).val ∧ (y 0).val < 96 * b.val + 96; omega
    · show 0 ≤ (y 1).val ∧ (y 1).val < 0 + 1024; omega
/-- An element of the two-slot buffer belongs to the slot its first coordinate names. -/
theorem mem_slotAt (s : Fin 2) (y : S2x96x1024.Idx) : y ∈ slotAt s ↔ (y 0).val = s.val := by
  rw [Rect.mem_set_unit]
  have h1 : (y 1).val < 96 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 96; omega
    · show 0 ≤ (y 2).val ∧ (y 2).val < 0 + 1024; omega
-- the constructorNameAsVariable linter reaches the recursion limit traversing these proofs' terms
theorem rowsAt_disjoint (b b' : Fin 16) (h : b ≠ b') : Disjoint (rowsAt b) (rowsAt b') :=
  Finset.disjoint_left.mpr fun y h1 h2 => h (Fin.ext (((mem_rowsAt b y).mp h1).symm.trans ((mem_rowsAt b' y).mp h2)))
theorem rowsAt_cover : (Finset.univ : Finset (Fin 16)).biUnion rowsAt = Finset.univ :=
  Finset.eq_univ_of_forall fun y => Finset.mem_biUnion.mpr ⟨⟨(y 0).val / 96, by have : (y 0).val < 1536 := (y 0).isLt; omega⟩, Finset.mem_univ _, (mem_rowsAt _ y).mpr rfl⟩
theorem slotAt_disjoint (s s' : Fin 2) (h : s ≠ s') : Disjoint (slotAt s) (slotAt s') :=
  Finset.disjoint_left.mpr fun y h1 h2 => h (Fin.ext (((mem_slotAt s y).mp h1).symm.trans ((mem_slotAt s' y).mp h2)))
theorem slotAt_cover : (Finset.univ : Finset (Fin 2)).biUnion slotAt = Finset.univ :=
  Finset.eq_univ_of_forall fun y => Finset.mem_biUnion.mpr ⟨⟨(y 0).val, (y 0).isLt⟩, Finset.mem_univ _, (mem_slotAt _ y).mpr rfl⟩

/-- Block `b`'s elements among the operand's, slot `s`'s among the buffer's. -/
abbrev blkSet (a : Memref sig .tc .hbm S1536x1024 .f32) (b : Fin 16) : Finset a.view.ty.Idx := (blk a b).view.set
abbrev slotSet (u : Memref sig .tc .vmem S2x96x1024 .f32) (s : Fin 2) : Finset u.view.ty.Idx := (slot u s).view.set

section Split
variable (c : Dev nD)

theorem two_sep (Φ : Fin 2 → sProp 𝕄) : bigSep Finset.univ Φ = iprop(Φ 0 ∗ Φ 1) :=
  bigSep_univ_eq_bigSepL [(0 : Fin 2), (1 : Fin 2)] (by decide) (by decide) Φ

/-- An operand held whole is its sixteen blocks home. -/
theorem homes_split (a : Memref sig .tc .hbm S1536x1024 .f32) (XA : Buf (Elt F) (a.view.loc (c : Thread nD τ)))
    (hd : ∀ b b' : Fin 16, b ≠ b' → Disjoint (blkSet a b) (blkSet a b')) (hc : (Finset.univ : Finset (Fin 16)).biUnion (blkSet a) = Finset.univ) :
    ((a.view.loc (c : Thread nD τ)) ↦{fullShare} XA : sProp 𝕄) = bigSep Finset.univ (homeP a c XA) :=
  Ring.pointsTo_blocks (ℓ := a.view.loc (c : Thread nD τ)) (blkSet a) hd hc XA

/-- A two-slot buffer held whole at something is its two slots held at something; -/
theorem slots_split (u : Memref sig .tc .vmem S2x96x1024 .f32)
    (hd : ∀ b b' : Fin 2, b ≠ b' → Disjoint (slotSet u b) (slotSet u b')) (hc : (Finset.univ : Finset (Fin 2)).biUnion (slotSet u) = Finset.univ) :
    iprop(∃ f : Buf (Elt F) (u.view.loc (c : Thread nD τ)), (u.view.loc (c : Thread nD τ)) ↦{fullShare} f)
      ⊢ (iprop((∃ f, slotP u c 0 f) ∗ ∃ f, slotP u c 1 f) : sProp 𝕄) := by
  iintro ⟨%f, H⟩
  ihave H2 := (Entails.of_eq ((Ring.pointsTo_blocks (Ix := Unit) (Name := ℕ) (U := UU nD τ) (Lvl := ℕ) (q := fullShare) (ℓ := u.view.loc (c : Thread nD τ))
    (slotSet u) hd hc f).trans (two_sep _))) $$ H
  icases H2 with ⟨H0, H1⟩
  isplitl [H0]
  · iexists f; iexact H0
  · iexists f; iexact H1
/-- and back. -/
theorem slots_join (u : Memref sig .tc .vmem S2x96x1024 .f32)
    (hd : ∀ b b' : Fin 2, b ≠ b' → Disjoint (slotSet u b) (slotSet u b')) (hc : (Finset.univ : Finset (Fin 2)).biUnion (slotSet u) = Finset.univ) :
    (iprop((∃ f, slotP u c 0 f) ∗ ∃ f, slotP u c 1 f) : sProp 𝕄)
      ⊢ iprop(∃ f : Buf (Elt F) (u.view.loc (c : Thread nD τ)), (u.view.loc (c : Thread nD τ)) ↦{fullShare} f) := by
  iintro ⟨⟨%f0, H0⟩, ⟨%f1, H1⟩⟩
  iapply (Ring.pointsTo_blocks_join_exists (ℓ := u.view.loc (c : Thread nD τ)) (slotSet u) hd hc f0)
  irw [two_sep]
  isplitl [H0]
  · iexists f0; iexact H0
  · iexists f1; iexact H1

/-- A ring at rest is its operand whole, its buffer whole at something and its two cells at zero. -/
theorem ring_whole (a : Memref sig .tc .hbm S1536x1024 .f32) (u : Memref sig .tc .vmem S2x96x1024 .f32) (w : DmaSems sig S2) (XA)
    (hd : ∀ b b' : Fin 16, b ≠ b' → Disjoint (blkSet a b) (blkSet a b')) (hc : (Finset.univ : Finset (Fin 16)).biUnion (blkSet a) = Finset.univ)
    (hd' : ∀ b b' : Fin 2, b ≠ b' → Disjoint (slotSet u b) (slotSet u b')) (hc' : (Finset.univ : Finset (Fin 2)).biUnion (slotSet u) = Finset.univ) :
    (ringRest a u w c XA : sProp 𝕄) = iprop(((a.view.loc (c : Thread nD τ)) ↦{fullShare} XA) ∗ (∃ f : Buf (Elt F) (u.view.loc (c : Thread nD τ)), (u.view.loc (c : Thread nD τ)) ↦{fullShare} f)
        ∗ cellP w c 0 ∗ cellP w c 1) := by
  rw [homes_split c a XA hd hc, ringRest, ← BI.Entails.antisymm (slots_join c u hd' hc') (slots_split c u hd' hc')]
  refine BI.Entails.antisymm (show (_ : sProp 𝕄) ⊢ (_ : sProp 𝕄) from ?_) (show (_ : sProp 𝕄) ⊢ (_ : sProp 𝕄) from ?_)
  · iintro ⟨H, H0, H1, C0, C1⟩
    isplitl [H]; · iexact H
    isplitl [H0 H1]
    · isplitl [H0]; · iexact H0
      iexact H1
    isplitl [C0]; · iexact C0
    iexact C1
  · iintro ⟨H, ⟨H0, H1⟩, C0, C1⟩
    isplitl [H]; · iexact H
    isplitl [H0]; · iexact H0
    isplitl [H1]; · iexact H1
    isplitl [C0]; · iexact C0
    iexact C1

/-- The three operands' blocks and the three buffers' slots are the sets above. -/
theorem blkSet_p : blkSet pM = rowsAt := funext fun _ => View.set_slice_whole _ _
theorem blkSet_t : blkSet tM = rowsAt := funext fun _ => View.set_slice_whole _ _
theorem blkSet_k : blkSet kM = rowsAt := funext fun _ => View.set_slice_whole _ _
theorem slotSet_p : slotSet uP = slotAt := funext fun _ => (View.set_reshape _ _).trans (View.set_slice_whole _ _)
theorem slotSet_t : slotSet uT = slotAt := funext fun _ => (View.set_reshape _ _).trans (View.set_slice_whole _ _)
theorem slotSet_k : slotSet uK = slotAt := funext fun _ => (View.set_reshape _ _).trans (View.set_slice_whole _ _)

/-- Each ring at rest, as the region hands it over and takes it back. -/
theorem ring_p (XA) : (ringRest pM uP cc0_scoped1 c XA : sProp 𝕄)
    = iprop(((pM.view.loc (c : Thread nD τ)) ↦{fullShare} XA) ∗ (∃ f : Buf (Elt F) (uP.view.loc (c : Thread nD τ)), (uP.view.loc (c : Thread nD τ)) ↦{fullShare} f)
        ∗ cellP cc0_scoped1 c 0 ∗ cellP cc0_scoped1 c 1) :=
  ring_whole c pM uP cc0_scoped1 XA (by rw [blkSet_p]; exact rowsAt_disjoint) (by rw [blkSet_p]; exact rowsAt_cover)
    (by rw [slotSet_p]; exact slotAt_disjoint) (by rw [slotSet_p]; exact slotAt_cover)
theorem ring_t (XA) : (ringRest tM uT cc0_scoped3 c XA : sProp 𝕄)
    = iprop(((tM.view.loc (c : Thread nD τ)) ↦{fullShare} XA) ∗ (∃ f : Buf (Elt F) (uT.view.loc (c : Thread nD τ)), (uT.view.loc (c : Thread nD τ)) ↦{fullShare} f)
        ∗ cellP cc0_scoped3 c 0 ∗ cellP cc0_scoped3 c 1) :=
  ring_whole c tM uT cc0_scoped3 XA (by rw [blkSet_t]; exact rowsAt_disjoint) (by rw [blkSet_t]; exact rowsAt_cover)
    (by rw [slotSet_t]; exact slotAt_disjoint) (by rw [slotSet_t]; exact slotAt_cover)
theorem ring_k (XA) : (ringRest kM uK cc0_scoped5 c XA : sProp 𝕄)
    = iprop(((kM.view.loc (c : Thread nD τ)) ↦{fullShare} XA) ∗ (∃ f : Buf (Elt F) (uK.view.loc (c : Thread nD τ)), (uK.view.loc (c : Thread nD τ)) ↦{fullShare} f)
        ∗ cellP cc0_scoped5 c 0 ∗ cellP cc0_scoped5 c 1) :=
  ring_whole c kM uK cc0_scoped5 XA (by rw [blkSet_k]; exact rowsAt_disjoint) (by rw [blkSet_k]; exact rowsAt_cover)
    (by rw [slotSet_k]; exact slotAt_disjoint) (by rw [slotSet_k]; exact slotAt_cover)

end Split

/-! ## The kernel's own semaphores: two cells per ring -/

abbrev osem : Fin 6 → SemLoc sig := ![.dma (csm cc0_scoped1 0).sem, .dma (csm cc0_scoped1 1).sem, .dma (csm cc0_scoped3 0).sem,
  .dma (csm cc0_scoped3 1).sem, .dma (csm cc0_scoped5 0).sem, .dma (csm cc0_scoped5 1).sem]
theorem ownSemFacts : Pipeline.OwnSemFacts spec0 osem := by decide

/-- The kernel's own semaphores at zero are the three rings' cells. -/
theorem ownSems0_eq (c : Dev nD) : (Pipeline.ownSems0 (Ix := Unit) (Name := ℕ) (U := UU nD τ) (Lvl := ℕ) (Val := Elt F) (τ := τ) osem c : sProp 𝕄)
    = iprop(cellP cc0_scoped1 c 0 ∗ cellP cc0_scoped1 c 1 ∗ cellP cc0_scoped3 c 0 ∗ cellP cc0_scoped3 c 1 ∗ cellP cc0_scoped5 c 0 ∗ cellP cc0_scoped5 c 1) := by
  unfold Pipeline.ownSems0
  exact bigSep_univ_eq_bigSepL [(0 : Fin 6), (1 : Fin 6), (2 : Fin 6), (3 : Fin 6), (4 : Fin 6), (5 : Fin 6)] (by decide) (by decide) _

section Launch
variable (m : (ℓ : Loc nD τ sig) → Buf (Elt F) ℓ) (ρ : Dev nD → PrngReg)

/-- The operands the rings read, as the region finds them. -/
abbrev HH : Finset (Ref sig .tc) := {main_v1, main_v3, main_v5}
theorem operands_eq (c : Dev nD) : (bigSep HH (fun b => ((c.tc : Thread nD τ).loc b) ↦{fullShare} V m c b) : sProp 𝕄)
    = iprop(((pM.view.loc (c : Thread nD τ)) ↦{fullShare} V m c main_v1) ∗ ((tM.view.loc (c : Thread nD τ)) ↦{fullShare} V m c main_v3)
        ∗ ((kM.view.loc (c : Thread nD τ)) ↦{fullShare} V m c main_v5)) :=
  bigSep_eq_bigSepL_of_eq [main_v1, main_v3, main_v5] (by decide) (by decide) _

/-! ## The pipeline's proof data -/

/-- What the body holds besides its windows, before and after the one point: the rings at rest, the counter at something. -/
def Φ (c : Dev nD) : sProp 𝕄 :=
  iprop(ringRest pM uP cc0_scoped1 c (V m c main_v1) ∗ ringRest tM uT cc0_scoped3 c (V m c main_v3) ∗ ringRest kM uK cc0_scoped5 c (V m c main_v5)
    ∗ ∃ f, cP c f)

/-- The accumulator the body leaves at point `t`. -/
def outAt (c : Dev nD) (t : Fin cfg0.N) : F .f32 :=
  accOf c (V m c main_v1) (V m c main_v3) (V m c main_v5) (st0_0 t) (st0_1 t) (st0_2 t) ((st0_0 t).view.rep (iblk m c 0 t)) ((st0_1 t).view.rep (iblk m c 1 t))
    ((st0_2 t).view.rep (iblk m c 2 t)) 16

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => outAt m c t
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = fun _ => outAt m c t := by dsimp only [dats]

/-! ## The body obligation -/

/-- The body table's entry is the kernel on the point's staging memrefs, in two steps: the table's function, then its
    application. -/
theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) := rfl
theorem prog_eq (t : Fin cfg0.N) : (defs₀ (F := F)) .tc cfg0.body (cfg0.bodyArgs t (cfg0.slots t))
    = bodyG (st0_0 t) (hstage0_0 0) (st0_1 t) (hstage0_1 0) (st0_2 t) (hstage0_2 0) (st0_3 t) (hstage0_3 0) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, after_w0, after_w1, after_w2, after_w3]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨R1, R2, R3, ⟨%fc, HC⟩⟩, ⟨%W, -, HW⟩, ⟨%d0, %g0, %h0, HE⟩, ⟨%d1, %g1, %h1, HY⟩, ⟨%d2, %g2, %h2, HN⟩, ⟨%d3, %g3, -, HO⟩⟩
  ihave HE := (pointsTo_rep_entails (c : Thread nD τ) (st0_0 t) g0 fullShare) $$ HE
  ihave HY := (pointsTo_rep_entails (c : Thread nD τ) (st0_1 t) g1 fullShare) $$ HY
  ihave HN := (pointsTo_rep_entails (c : Thread nD τ) (st0_2 t) g2 fullShare) $$ HN
  rw [h0, h1, h2]
  sl_rw [prog_eq t]
  iapply (bodyRun c (V m c main_v1) (V m c main_v3) (V m c main_v5) (st0_0 t) (hstage0_0 0) (st0_1 t) (hstage0_1 0) (st0_2 t) (hstage0_2 0) (st0_3 t) (hstage0_3 0)
    _ _ _ g3 fc W)
  isplitl [R1 R2 R3 HC HE HY HN HO HW]
  · isplitl [HO]; · iexact HO
    isplitl [HC]; · iexact HC
    isplitl [R1 R2 R3 HE HY HN]
    · isplitl [HE]; · iexact HE
      isplitl [HY]; · iexact HY
      isplitl [HN]; · iexact HN
      isplitl [R1]; · iexact R1
      isplitl [R2]; · iexact R2
      iexact R3
    iexact HW
  · iintro ⟨HO, HC, ⟨HE, HY, HN, R1, R2, R3⟩, ⟨%W', HW⟩⟩
    isplitl [R1 R2 R3 HC]
    · isplitl [R1]; · iexact R1
      isplitl [R2]; · iexact R2
      isplitl [R3]; · iexact R3
      iexists _; iexact HC
    isplitl [HW]
    · iexists W'; isplitr; · ipureintro; exact fun _ _ => Or.inl trivial
      iexact HW
    isplitl [HE]
    · iexists _; isplitr; · ipureintro; exact View.read_rep _ _
      iexact HE
    isplitl [HY]
    · iexists _; isplitr; · ipureintro; exact View.read_rep _ _
      iexact HY
    isplitl [HN]
    · iexists _; isplitr; · ipureintro; exact View.read_rep _ _
      iexact HN
    iexists _; isplitr; · ipureintro; exact View.read_rep _ _
    iexact HO

/-! ## The run -/

/-- The step counter's memref is its buffer whole. -/
theorem counter_whole (c : Dev nD) (f : Buf (Elt F) (nM.view.loc (c : Thread nD τ))) : (cP c f : sProp 𝕄) = ((nM.view.loc (c : Thread nD τ)) ↦{fullShare} f) := by
  rw [cP, View.set_whole]

/-- The region's own resources are the invariant: the scoped buffers, the kernel's semaphores and the rings' operands. -/
theorem enter (c : Dev nD) (G : (c : Dev nD) → (b : Ref sig .tc) → Buf (Elt F) ((c.tc : Thread nD τ).loc b)) :
    Pipeline.ΦDRV osem spec0 HH ∅ (V m) G c = Φ m c := by
  unfold Pipeline.ΦDRV
  rw [scopedRest0_eq, ownSems0_eq, operands_eq, Φ, ring_p, ring_t, ring_k, BI.bigSep_empty]
  refine BI.Entails.antisymm (show (_ : sProp 𝕄) ⊢ (_ : sProp 𝕄) from ?_) (show (_ : sProp 𝕄) ⊢ (_ : sProp 𝕄) from ?_)
  · iintro ⟨⟨S1, S2, S3, ⟨%f, SC⟩⟩, ⟨C1, D1, C2, D2, C3, D3⟩, ⟨H1, H2, H3⟩, -⟩
    isplitl [S1 C1 D1 H1]
    · isplitl [H1]; · iexact H1
      isplitl [S1]; · iexact S1
      isplitl [C1]; · iexact C1
      iexact D1
    isplitl [S2 C2 D2 H2]
    · isplitl [H2]; · iexact H2
      isplitl [S2]; · iexact S2
      isplitl [C2]; · iexact C2
      iexact D2
    isplitl [S3 C3 D3 H3]
    · isplitl [H3]; · iexact H3
      isplitl [S3]; · iexact S3
      isplitl [C3]; · iexact C3
      iexact D3
    iexists f
    iapply (Entails.of_eq (counter_whole c f).symm); iexact SC
  · iintro ⟨⟨H1, S1, C1, D1⟩, ⟨H2, S2, C2, D2⟩, ⟨H3, S3, C3, D3⟩, ⟨%f, SC⟩⟩
    isplitl [S1 S2 S3 SC]
    · isplitl [S1]; · iexact S1
      isplitl [S2]; · iexact S2
      isplitl [S3]; · iexact S3
      iexists f
      iapply (Entails.of_eq (counter_whole c f)); iexact SC
    isplitl [C1 D1 C2 D2 C3 D3]
    · isplitl [C1]; · iexact C1
      isplitl [D1]; · iexact D1
      isplitl [C2]; · iexact C2
      isplitl [D2]; · iexact D2
      isplitl [C3]; · iexact C3
      iexact D3
    isplitl [H1 H2 H3]
    · isplitl [H1]; · iexact H1
      isplitl [H2]; · iexact H2
      iexact H3
    iempintro

/-- The result array after the one write-back. -/
theorem final_out (c : Dev nD) : (dats m 0 c).arrAt 3 cfg0.N = fun _ => outAt m c t0_0 :=
  (dats m 0 c).arrAt_eq_of_after_last 3 t0_0 (by decide +kernel) _ fun j => by rw [after_w3]; rfl

/-- The memory after the line that follows the region. -/
abbrev afterAll (c : Dev nD) : Valuation τ sig (Elt F) :=
  StableHlo.after (List.flatten [hostOps1]) (Pipeline.withArrays spec0 c (Pipeline.withR (V0 m c) ∅ c (V m c)) fun w => (dats m 0 c).arrAt w cfg0.N)

/-- A buffer that is no window's array and not the result is as the region found it. -/
theorem kept (c : Dev nD) (b : Ref sig .tc) (h : main_v12 ≠ b) (ha : ∀ w, Pipeline.arrRef spec0 w ≠ b) : afterAll m c (Proc.devRef .tc b) = V m c b := by
  unfold afterAll
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne h.symm)),
    Pipeline.withArrays_of_ne _ c _ _ b ha, Pipeline.withR_of_not_mem _ _ _ _ b (Finset.notMem_empty b)]

/-- The result is the array's one element. -/
theorem result_eq (c : Dev nD) : afterAll m c (Proc.devRef .tc main_v12) = fun _ => outAt m c t0_0 := by
  have e : Pipeline.withArrays spec0 c (Pipeline.withR (V0 m c) ∅ c (V m c)) (fun w => (dats m 0 c).arrAt w cfg0.N) (Proc.devRef .tc main_v11)
      = fun _ => outAt m c t0_0 :=
    (Pipeline.withArrays_arr spec0 launch0.win.arr_inj c _ _ 3).trans (final_out m c)
  unfold afterAll
  simp only [hostOps1, List.flatten_cons, List.flatten_nil, List.append_nil]
  after_results
  rw [e]; rfl

/-- What a run ends with: the result, the arguments as launched, every semaphore at zero. -/
def Post (r : PUnit × MemSt nD τ sig (Elt F)) : Prop :=
  (∀ c : Dev nD, r.2.mem ((c.tc : Thread nD τ).loc main_v12) = (fun _ => outAt m c t0_0)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
  ∧ r.2.sem = fun _ => 0

set_option maxHeartbeats 800000 in
/-- The host lines, then the region continued by the last line, for this proof's resources. -/
theorem around : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

set_option backward.isDefEq.respectTransparency.types false in
/-- Every weakly fair execution of the program on the TensorCores, from any memory with every semaphore at zero, ends with the
    result the body computes, the arguments unchanged and every semaphore at zero. -/
theorem run_main : θ_run defs (onTc (τ := τ) (main (F := F))) (s₀ m ρ) (Post m) :=
  Pipeline.θ_run_frame_dmaR_aroundV cfgs (dats m) 0 launch0 osem defs₀ 𝒱₀ ownSemFacts HH ∅ (by decide) (by decide) m ρ main
    (hbody := fun c => (body_obligation m c).loose) (hshare := fun c => (dats m 0 c).share_full fun _ => rfl) (howed := fun _ _ => rfl)
    (V₀ := V0 m) (opss := [hostOps1]) (hsub := sfx_sub) (hfresh := sfx_fresh) (hkeep := sfx_keeps) (G := V m) (hmain := around m)
    (hA := fun _ _ => rfl) (hin := fun c => Entails.of_eq (enter m c (V m))) (hout := fun c => Entails.of_eq (enter m c (V m)).symm)
    (Q' := Post m)
    (hQ' := fun r ⟨h, hz⟩ => ⟨fun c =>
      have rest (b : Ref sig .tc) (h12 : main_v12 ≠ b) (ha : ∀ w, Pipeline.arrRef spec0 w ≠ b) (hb : b ∈ Pipeline.restRefs sig spec0) :
          r.2.mem ((c.tc : Thread nD τ).loc b) = V m c b := ((h c).2 b hb).trans (kept m c b h12 ha)
      ⟨((h c).2 main_v12 (Pipeline.mem_restRefs_of main_v12 (by decide) (by decide))).trans (result_eq m c),
        (rest main_arg0 (by decide) (by decide) (Pipeline.mem_restRefs_of _ (by decide) (by decide))).trans (V_main_arg0 m c),
        (rest main_arg1 (by decide) (by decide) (Pipeline.mem_restRefs_of _ (by decide) (by decide))).trans (V_main_arg1 m c),
        (rest main_arg2 (by decide) (by decide) (Pipeline.mem_restRefs_of _ (by decide) (by decide))).trans (V_main_arg2 m c),
        (rest main_arg3 (by decide) (by decide) (Pipeline.mem_restRefs_of _ (by decide) (by decide))).trans (V_main_arg3 m c),
        (rest main_arg4 (by decide) (by decide) (Pipeline.mem_restRefs_of _ (by decide) (by decide))).trans (V_main_arg4 m c),
        (rest main_arg5 (by decide) (by decide) (Pipeline.mem_restRefs_of _ (by decide) (by decide))).trans (V_main_arg5 m c)⟩, hz⟩)

end Launch

end Cert.Proof.Rings

end
-- ==== Proof.Frames.lean ====
/-
  The frame claims of the three programs. The kernel's two are read off the one run: the named program over machine words, where
  the named constant is the printed literal, is the printed program. The reference's is its run of host operations.
-/
module

public import proofs.«01_k».proof.Defs
public import proofs.«01_k».proof.Proof.Gen.Kernel
public import proofs.«01_k».proof.Proof.Gen.ReferenceIdeal.Run
public import proofs.«01_k».proof.Proof.Launch
public import Idealize.ShloMosaic.Lib.Quiescent

@[expose] public section

noncomputable section

namespace Cert.Proof.Rings

open Idealize.ShloMosaic Idealize.ShloMosaic.TcCoe Idealize.SL.Sem

/-- Over machine words a named constant is the literal that was named. -/
@[instance_reducible] def namedBits : Named Bits := ⟨fun _ _ {φ} b => Scalar.ofBits φ b⟩

/-- `Cert.quiescent_KernelIdeal`. -/
theorem frame_ideal : Cert.quiescent_KernelIdeal := fun m ρ _ =>
  (θ_run Cert.KernelIdeal.defs _ _).mono (fun _ h => ⟨fun c => (h.1 c).2, h.2⟩) (run_main (F := Ideal) m ρ)

attribute [local instance] namedBits

/-- The printed program and the named one over machine words are one program, run from one memory. -/
theorem same_run (m : (ℓ : Loc Cert.Kernel.nD Cert.Kernel.τ Cert.Kernel.sig) → Buf (Elt Bits) ℓ) (ρ : Dev Cert.Kernel.nD → PrngReg)
    (Q : PUnit × MemSt Cert.Kernel.nD Cert.Kernel.τ Cert.Kernel.sig (Elt Bits) → Prop) :
    θ_run (Cert.Kernel.defs (F := Bits)) (onTc (τ := Cert.Kernel.τ) (Cert.Kernel.main (F := Bits))) ⟨m, fun _ => 0, ρ⟩ Q
      = θ_run (Cert.KernelIdeal.defs (F := Bits)) (onTc (τ := Cert.KernelIdeal.τ) (Cert.KernelIdeal.main (F := Bits))) ⟨m, fun _ => 0, ρ⟩ Q := by
  sl_kernel_rfl

/-- `Cert.quiescent_Kernel`. -/
theorem frame_kernel : Cert.quiescent_Kernel := fun m ρ _ => by
  rw [same_run]
  exact (θ_run (Cert.KernelIdeal.defs (F := Bits)) _ _).mono (fun _ h => ⟨fun c => (h.1 c).2, h.2⟩) (run_main (F := Bits) m ρ)

/-- `Cert.quiescent_ReferenceIdeal`: host operations only, none of which writes an argument, in a program without semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Rings

end
-- ==== Proof.Sums.lean ====
/-
  Sums over index sets, and the arithmetic of extended reals that the two losses need: nothing here mentions a program.
-/
module

public import Idealize.ShloMosaic.PureOps
public import Idealize.ShloMosaic.PureOps.Ideal.Laws
public import Idealize.ShloMosaic.Lib.ValueIdx
public import Idealize.ShloMosaic.Lib.ValueIdxCoords
public import Idealize.ShloMosaic.Lib.IdealHost

@[expose] public section

noncomputable section

open scoped BigOperators

namespace Cert.Proof.Value

open Idealize.ShloMosaic Idealize.ShloMosaic.ValueIdx

/-! ## Sums -/

/-- A sum over a reshaped array is the sum over the array. -/
theorem sum_reshape {s t : Shape} (h : t.numel = s.numel) (f : s.Idx → EReal) :
    ∑ i : t.Idx, f (Shape.reshapeEquiv h i) = ∑ i : s.Idx, f i := Equiv.sum_comp (Shape.reshapeEquiv h) f

/-- The transposition that brings the first of four axes last visits every index once. -/
theorem bijective_last4 {a b c d : ℕ} (h : (⟨4, ![a, b, c, d]⟩ : Shape).Transposes [1, 2, 3, 0] ⟨4, ![b, c, d, a]⟩) :
    Function.Bijective h.src :=
  Function.bijective_iff_has_inverse.mpr ⟨fun k => ix4 (k 1) (k 2) (k 3) (k 0),
    fun j => by funext x; match x with | ⟨0, _⟩ => rfl | ⟨1, _⟩ => rfl | ⟨2, _⟩ => rfl | ⟨3, _⟩ => rfl,
    fun k => by funext x; match x with | ⟨0, _⟩ => rfl | ⟨1, _⟩ => rfl | ⟨2, _⟩ => rfl | ⟨3, _⟩ => rfl⟩

/-- The transposition that exchanges the first and the last of three axes visits every index once. -/
theorem bijective_swap3 {a b c : ℕ} (h : (⟨3, ![a, b, c]⟩ : Shape).Transposes [2, 1, 0] ⟨3, ![c, b, a]⟩) :
    Function.Bijective h.src :=
  Function.bijective_iff_has_inverse.mpr ⟨fun k => ix3 (k 2) (k 1) (k 0),
    fun j => by funext x; match x with | ⟨0, _⟩ => rfl | ⟨1, _⟩ => rfl | ⟨2, _⟩ => rfl,
    fun k => by funext x; match x with | ⟨0, _⟩ => rfl | ⟨1, _⟩ => rfl | ⟨2, _⟩ => rfl⟩

/-- Row `r` of block `k`, of `n` blocks of `w` rows each. -/
def rowOf {n w N : ℕ} (e : n * w = N) (k : Fin n) (r : Fin w) : Fin N := (finProdFinEquiv (k, r)).cast e

/-- Its number within the whole. -/
theorem rowOf_val {n w N : ℕ} (e : n * w = N) (k : Fin n) (r : Fin w) : (rowOf e k r).val = w * k.val + r.val := by
  show r.val + w * k.val = _; omega

/-- A sum over an array is the sum over its blocks of rows of the sums over each. -/
theorem sum_blocks {n w N C : ℕ} (e : n * w = N) (f : (⟨2, ![N, C]⟩ : Shape).Idx → EReal) :
    ∑ i, f i = ∑ k : Fin n, ∑ j : (⟨2, ![w, C]⟩ : Shape).Idx, f (ix2 (rowOf e k (j 0)) (j 1)) := by
  subst e
  rw [sum_idx2, ← Equiv.sum_comp finProdFinEquiv, Fintype.sum_prod_type]
  refine Finset.sum_congr rfl fun k _ => ?_
  rw [sum_idx2]
  rfl

/-! ## Arithmetic -/

/-- A weight that is a nonnegative real distributes over a sum of two. -/
theorem weight_add {r : ℝ} (hr : 0 ≤ r) (x y : EReal) : (r : EReal) * (x + y) = r * x + r * y :=
  EReal.left_distrib_of_nonneg_of_ne_top (EReal.coe_nonneg.mpr hr) (EReal.coe_ne_top r) x y

/-- A real is taken out of a difference, whatever the two terms: also where they are infinite. -/
theorem sub_weight_sq (p t : EReal) (r : ℝ) :
    ((p - t) * r) * ((p - t) * r) = (p * r - t * r) * (p * r - t * r) := by
  rcases lt_trichotomy r 0 with h | h | h
  · induction p using EReal.rec with
    | bot => induction t using EReal.rec with
      | bot => simp [EReal.bot_mul_coe_of_neg h]
      | coe t => rw [EReal.bot_sub, EReal.bot_mul_coe_of_neg h, ← EReal.coe_mul, EReal.top_sub_coe]
      | top => simp [EReal.bot_mul_coe_of_neg h, EReal.top_mul_coe_of_neg h]
    | coe p => induction t using EReal.rec with
      | bot => rw [EReal.coe_sub_bot, EReal.top_mul_coe_of_neg h, EReal.bot_mul_coe_of_neg h, ← EReal.coe_mul, EReal.sub_top]
      | coe t => rw [← EReal.coe_sub, ← EReal.coe_mul, ← EReal.coe_mul p, ← EReal.coe_mul t, ← EReal.coe_sub, sub_mul]
      | top => rw [EReal.sub_top, EReal.bot_mul_coe_of_neg h, EReal.top_mul_coe_of_neg h, ← EReal.coe_mul, EReal.coe_sub_bot]
    | top => induction t using EReal.rec with
      | bot => simp [EReal.bot_mul_coe_of_neg h, EReal.top_mul_coe_of_neg h]
      | coe t => rw [EReal.top_sub_coe, EReal.top_mul_coe_of_neg h, ← EReal.coe_mul, EReal.bot_sub]
      | top => simp [EReal.bot_mul_coe_of_neg h, EReal.top_mul_coe_of_neg h]
  · subst h; simp
  · rw [EReal.mul_comm (p - t), EReal.mul_comm p, EReal.mul_comm t, sub_eq_add_neg, weight_add h.le, mul_neg, ← sub_eq_add_neg]

end Cert.Proof.Value

end
-- ==== Proof.PointValue.lean ====
/-
  What the accumulator holds at the end, over the extended reals: the weighted sum of all the squares, and the edge part once.
-/
module

public import proofs.«01_k».proof.Proof.Trip
public import proofs.«01_k».proof.Proof.Sums

@[expose] public section

noncomputable section

open scoped BigOperators

namespace Cert.Proof.Value

open Cert.KernelIdeal Cert.KernelIdeal.Gen Cert.Proof.Rings
open Idealize.ShloMosaic Idealize.ShloMosaic.ValueIdx
open Idealize.ShloMosaic.TcCoe

/-- The weight of a squared difference: a hundred over the number of entries. -/
def cp : ℝ := 25 / 393216

/-- It is not negative. -/
theorem cp_nonneg : 0 ≤ cp := by unfold cp; norm_num

/-- The named constant is that weight. -/
theorem point_weight : Named.named (F := Ideal) κ "point_weight" (φ := .f32) 0x38855555#32 = ((cp : ℝ) : EReal) := by
  refine IdealRules.named_const.ideal_named_scalar κ _ _ _ ?_
  simp [κ, cp]

/-- A squared difference, weighted before it is squared. -/
def sqAt {s : Shape} (p t m : s.Idx → EReal) (i : s.Idx) : EReal := ((p i - t i) * m i) * ((p i - t i) * m i)

/-- One block's step adds its weighted sum of squares. -/
theorem pointStep_ideal (p t m : FVec Ideal S96x1024 .f32) (o : EReal) :
    pointStep (F := Ideal) p t m o = o + (cp : EReal) * ∑ i, sqAt p t m i := by
  unfold pointStep
  rw [point_weight]
  rw [show multiReduction (F := Ideal) .add [1, 2] S1 (shapeCast S1x96x1024 (mulf (mulf (subf p t) m) (mulf (subf p t) m)) shapeCasts_S96x1024_S1x96x1024)
    0x00000000#32 reduces_S1x96x1024_S1 (.inl rfl) rfl = fun _ => ∑ i, sqAt p t m i from funext fun j =>
      (Ideal.multiReduction_add_total _ _ _ (by decide) _ _ j).trans (sum_reshape (s := S96x1024) shapeCasts_S96x1024_S1x96x1024 (sqAt p t m))]
  rfl

/-- The index of a block's entry within the operand. -/
theorem blk_index (b : Fin 16) (i : S96x1024.Idx) :
    (Rect.unit (s := S1536x1024) (blkOff b) S96x1024.size (blkOff_inb b)).emb i = ix2 (rowOf (n := 16) (w := 96) (N := 1536) rfl b (i 0)) (i 1) := by
  funext x
  match x with
  | ⟨0, _⟩ => exact Fin.ext ((show (_ : ℕ) = 96 * b.val + (i 0).val from by show 96 * b.val + 1 * (i 0).val = _; omega).trans (rowOf_val (n := 16) (w := 96) rfl b (i 0)).symm)
  | ⟨1, _⟩ => exact Fin.ext (by show 0 + 1 * (i 1).val = (i 1).val; omega)

section Operands
variable (c : Dev nD) (b : Fin 16) (i : S96x1024.Idx)

/-- A block's entry is the operand's, at the block's row: of the first operand. -/
theorem payload_p (X : Buf (Elt Ideal) (pM.view.loc (c : Thread nD τ))) :
    payload (F := Ideal) pM c X b i = X (ix2 (rowOf (n := 16) (w := 96) (N := 1536) rfl b (i 0)) (i 1)) := congrArg X (blk_index b i)
/-- The same of the second operand. -/
theorem payload_t (X : Buf (Elt Ideal) (tM.view.loc (c : Thread nD τ))) :
    payload (F := Ideal) tM c X b i = X (ix2 (rowOf (n := 16) (w := 96) (N := 1536) rfl b (i 0)) (i 1)) := congrArg X (blk_index b i)
/-- The same of the third operand. -/
theorem payload_k (X : Buf (Elt Ideal) (kM.view.loc (c : Thread nD τ))) :
    payload (F := Ideal) kM c X b i = X (ix2 (rowOf (n := 16) (w := 96) (N := 1536) rfl b (i 0)) (i 1)) := congrArg X (blk_index b i)

end Operands

section Accumulator
variable (c : Dev nD) (XP : Buf (Elt Ideal) (pM.view.loc (c : Thread nD τ))) (XT : Buf (Elt Ideal) (tM.view.loc (c : Thread nD τ)))
  (XK : Buf (Elt Ideal) (kM.view.loc (c : Thread nD τ)))
  (arg3 : Memref sig .tc .vmem S10x10x8x128 .f32) (arg4 : Memref sig .tc .vmem S10x8x128 .i32) (arg5 : Memref sig .tc .vmem S8x128 .i32)
  (fe : Buf (Elt Ideal) (arg3.view.loc (c : Thread nD τ))) (fy : Buf (Elt Ideal) (arg4.view.loc (c : Thread nD τ))) (fn : Buf (Elt Ideal) (arg5.view.loc (c : Thread nD τ)))

/-- The sum of squares of block `k`. -/
def blockSum (k : ℕ) : EReal :=
  ∑ i, sqAt (payload (F := Ideal) pM c XP (Ring.bk 16 k)) (payload (F := Ideal) tM c XT (Ring.bk 16 k)) (payload (F := Ideal) kM c XK (Ring.bk 16 k)) i

/-- The sixteen blocks' sums together are the sum over the operand. -/
theorem sum_blockSum : ∑ k ∈ Finset.range 16, blockSum c XP XT XK k = ∑ i : S1536x1024.Idx, sqAt (s := S1536x1024) XP XT XK i := by
  rw [Finset.sum_range, sum_blocks (n := 16) (w := 96) (N := 1536) (C := 1024) rfl]
  refine Finset.sum_congr rfl fun k _ => Finset.sum_congr rfl fun j _ => ?_
  unfold sqAt
  rw [payload_p, payload_t, payload_k, bk_eq k.isLt]

/-- After `k + 1` trips: the weighted sums of the first `k + 1` blocks, and the edge part `E`, added on the first trip. -/
theorem acc_succ (E : EReal)
    (hE : ∀ o : EReal, k0_pay2 (F := Ideal) o (arg3.view.read (Elt Ideal) fe) (arg4.view.read (Elt Ideal) fy) (arg5.view.read (Elt Ideal) fn) = o + E) (k : ℕ) :
    accOf (F := Ideal) c XP XT XK arg3 arg4 arg5 fe fy fn (k + 1) = (cp : EReal) * (∑ b ∈ Finset.range (k + 1), blockSum c XP XT XK b) + E := by
  induction k with
  | zero =>
    rw [accOf, nextAcc, if_pos rfl, hE, pointStep_ideal, accOf, Finset.sum_range_one]
    rw [show (Scalar.ofBits .f32 0x00000000#32 : Ideal .f32) = (0 : EReal) from Ideal.ofBits_zero_f32, zero_add]
    rfl
  | succ k ih =>
    rw [accOf, nextAcc, if_neg (by omega), ih, pointStep_ideal, Finset.sum_range_succ _ (k + 1), weight_add cp_nonneg, add_right_comm]
    rfl

/-- After the last trip: the weighted sum of all the squares, and the edge part. -/
theorem acc_all (E : EReal)
    (hE : ∀ o : EReal, k0_pay2 (F := Ideal) o (arg3.view.read (Elt Ideal) fe) (arg4.view.read (Elt Ideal) fy) (arg5.view.read (Elt Ideal) fn) = o + E) :
    accOf (F := Ideal) c XP XT XK arg3 arg4 arg5 fe fy fn 16 = (cp : EReal) * (∑ i : S1536x1024.Idx, sqAt (s := S1536x1024) XP XT XK i) + E := by
  rw [acc_succ c XP XT XK arg3 arg4 arg5 fe fy fn E hE 15, sum_blockSum]

end Accumulator

end Cert.Proof.Value

end
-- ==== Proof.EdgeValue.lean ====
/-
  The edge part over the extended reals: one term for each pair of vertices of each graph, and its weighted sum.
-/
module

public import proofs.«01_k».proof.Proof.Trip
public import proofs.«01_k».proof.Proof.Sums
public import Idealize.ShloMosaic.Lib.Pipeline.Value

@[expose] public section

noncomputable section

open scoped BigOperators

namespace Cert.Proof.Value

open Cert.KernelIdeal Cert.KernelIdeal.Gen Cert.Proof.Rings
open Idealize.ShloMosaic Idealize.ShloMosaic.ValueIdx
open Idealize.ShloMosaic.TcCoe

/-- The weight of an edge term: a hundred over the number of pairs. -/
def ce : ℝ := 1 / 1024

/-- The printed weight is that number. -/
theorem edge_weight : (Scalar.ofBits .f32 0x3A800000#32 : Ideal .f32) = ((ce : ℝ) : EReal) := by
  show Ideal.ofBits .f32 _ = _
  simp [Ideal.ofBits, Ideal.ieee, ce, -EReal.coe_mul]; norm_num

/-- The lower bound on a logarithm, minus a hundred, as printed. -/
abbrev low : EReal := Ideal.ofBits .f32 0xC2C80000#32

/-- The term of the pair `(i, j)` in a graph of `n` vertices, where vertex `i` is matched to `y` and the predicted weight of the
    pair is `e`: the cross-entropy of `e` with whether `j` is `y`, each logarithm bounded below; zero outside the graph. -/
def edgeTerm (n y : BitVec 32) (i j : ℕ) (e : EReal) : EReal :=
  Scalar.select (Scalar.andi (Scalar.cmpi .slt (BitVec.ofNat 32 i) n) (Scalar.cmpi .slt (BitVec.ofNat 32 j) n))
    (0 - Scalar.select (Scalar.cmpi .eq (BitVec.ofNat 32 j) y) (max (Ideal.log e) low) (max (Ideal.log (1 - e)) low)) 0

/-- The kernel's edge term at an index `(i, j, s, l)`: lane `l` of sublane `s` is a graph. -/
def edgeAt (e : FVec Ideal S10x10x8x128 .f32) (y : IVec S10x8x128 32) (n : IVec S8x128 32) (i : S10x10x8x128.Idx) : EReal :=
  edgeTerm (n (ix2 (i 2) (i 3))) (y (ix3 (i 0) (i 2) (i 3))) (i 0).val (i 1).val (e i)

/-- The sum of a four-axis array, as the kernel takes it: through one more axis and a reduction over the four. -/
theorem total_at (x : FVec Ideal S10x10x8x128 .f32) :
    extractAt ![0, 0, 0, 0, 0] (shapeCast S1x1x1x1x1 (multiReduction (F := Ideal) .add [1, 2, 3, 4] S1
      (shapeCast S1x10x10x8x128 x shapeCasts_S10x10x8x128_S1x10x10x8x128) 0x00000000#32 reduces_S1x10x10x8x128_S1 (.inl rfl) rfl)
      shapeCasts_S1_S1x1x1x1x1) inpos_S1x1x1x1x1_p0_0_0_0_0 = ∑ i, x i := by
  rw [show multiReduction (F := Ideal) .add [1, 2, 3, 4] S1 (shapeCast S1x10x10x8x128 x shapeCasts_S10x10x8x128_S1x10x10x8x128)
    0x00000000#32 reduces_S1x10x10x8x128_S1 (.inl rfl) rfl = fun _ => ∑ i, x i from funext fun j =>
      (Ideal.multiReduction_add_total _ _ _ (by decide) _ _ j).trans (sum_reshape (s := S10x10x8x128) shapeCasts_S10x10x8x128_S1x10x10x8x128 x)]
  rfl

/-- The vertex counts, spread over the pairs. -/
theorem count_at (n : IVec S8x128 32) (i : S10x10x8x128.Idx) :
    broadcastTo S10x10x8x128 (shapeCast S1x1x8x128 n shapeCasts_S8x128_S1x1x8x128) broadcasts_S1x1x8x128_S10x10x8x128 i = n (ix2 (i 2) (i 3)) := by
  refine (broadcastTo_apply (s := S1x1x8x128) (t := S10x10x8x128) _ _ i (ix4 0 0 (i 2) (i 3))
    (fun a => by match a with | ⟨0, _⟩ => rfl | ⟨1, _⟩ => rfl | ⟨2, _⟩ => rfl | ⟨3, _⟩ => rfl)).trans
    (shapeCast_apply (s := S8x128) (t := S1x1x8x128) n _ _ (ix2 (i 2) (i 3)) ?_)
  rw [Shape.rowMajor_val_two, Shape.rowMajor_val_four]
  show (i 2).val * 128 + (i 3).val = ((0 * 1 + 0) * 8 + (i 2).val) * 128 + (i 3).val
  omega

/-- The matches, spread over the pairs. -/
theorem match_at (y : IVec S10x8x128 32) (i : S10x10x8x128.Idx) :
    broadcastTo S10x10x8x128 (shapeCast S10x1x8x128 y shapeCasts_S10x8x128_S10x1x8x128) broadcasts_S10x1x8x128_S10x10x8x128 i
      = y (ix3 (i 0) (i 2) (i 3)) := by
  refine (broadcastTo_apply (s := S10x1x8x128) (t := S10x10x8x128) _ _ i (ix4 (i 0) 0 (i 2) (i 3))
    (fun a => by match a with | ⟨0, _⟩ => rfl | ⟨1, _⟩ => rfl | ⟨2, _⟩ => rfl | ⟨3, _⟩ => rfl)).trans
    (shapeCast_apply (s := S10x8x128) (t := S10x1x8x128) y _ _ (ix3 (i 0) (i 2) (i 3)) ?_)
  rw [Shape.rowMajor_val_three, Shape.rowMajor_val_four]
  show ((i 0).val * 8 + (i 2).val) * 128 + (i 3).val = (((i 0).val * 1 + 0) * 8 + (i 2).val) * 128 + (i 3).val
  omega

/-- The first trip's second step adds the weighted sum of the edge terms. -/
theorem pay2_ideal (o : EReal) (e : FVec Ideal S10x10x8x128 .f32) (y : IVec S10x8x128 32) (n : IVec S8x128 32) :
    k0_pay2 (F := Ideal) o e y n = o + (ce : EReal) * ∑ i, edgeAt e y n i := by
  unfold k0_pay2
  simp only [shapeCast_self]
  rw [edge_weight, total_at]
  refine congrArg (fun x : EReal => o + (ce : EReal) * x) (Finset.sum_congr rfl fun i _ => ?_)
  unfold edgeAt edgeTerm
  rw [← count_at n i, ← match_at y i, ← Ideal.ofBits_zero_f32, ← Ideal.ofBits_one_f32,
    ← iota_single_apply .tc S10x10x8x128 32 0 iota_S10x10x8x128_d0_w32 i, ← iota_single_apply .tc S10x10x8x128 32 1 iota_S10x10x8x128_d1_w32 i]
  rfl

end Cert.Proof.Value

end
-- ==== Proof.RefValue.lean ====
/-
  The reference's result over the extended reals, as the two weighted sums the kernel also computes: of squares of differences
  weighted before they are subtracted, and of the edge terms.
-/
module

public import proofs.«01_k».proof.Defs
public import proofs.«01_k».proof.Proof.Gen.ReferenceIdeal.Run
public import proofs.«01_k».proof.Proof.PointValue
public import proofs.«01_k».proof.Proof.EdgeValue

@[expose] public section

noncomputable section

open scoped BigOperators

namespace Cert.Proof.Value.Ref

open Cert.ReferenceIdeal Cert.ReferenceIdeal.Gen
open Idealize.ShloMosaic Idealize.ShloMosaic.ValueIdx
open Idealize.ShloMosaic.TcCoe

/-! ## The reference's pieces -/

/-- The first vertex of a pair lies in the graph. -/
def firstIn (n : IVec S1024 32) : IVec S1024x10x1 1 :=
  cmpi .slt
    (broadcastInDim S1024x10x1 ![0, 1, 2] bcast_S1x10x1_S1024x10x1_0_1_2
      (broadcastInDim S1x10x1 ![1, 2] bcast_S10x1_S1x10x1_1_2 (broadcastInDim S10x1 ![0] bcast_S10_S10x1_0 (iotaInDim S10 32 0))))
    (broadcastInDim S1024x10x1 ![0, 1, 2] bcast_S1024x1x1_S1024x10x1_0_1_2 (broadcastInDim S1024x1x1 ![0] bcast_S1024_S1024x1x1_0 n))

/-- The second vertex of a pair lies in the graph. -/
def secondIn (n : IVec S1024 32) : IVec S1024x1x10 1 :=
  cmpi .slt
    (broadcastInDim S1024x1x10 ![0, 1, 2] bcast_S1x1x10_S1024x1x10_0_1_2
      (broadcastInDim S1x1x10 ![1, 2] bcast_S1x10_S1x1x10_1_2 (broadcastInDim S1x10 ![1] bcast_S10_S1x10_1 (iotaInDim S10 32 0))))
    (broadcastInDim S1024x1x10 ![0, 1, 2] bcast_S1024x1x1_S1024x1x10_0_1_2 (broadcastInDim S1024x1x1 ![0] bcast_S1024_S1024x1x1_0 n))

/-- Both vertices of a pair lie in the graph. -/
def valid (n : IVec S1024 32) : IVec S1024x10x10 1 :=
  andi (broadcastInDim S1024x10x10 ![0, 1, 2] bcast_S1024x10x1_S1024x10x10_0_1_2 (firstIn n))
    (broadcastInDim S1024x10x10 ![0, 1, 2] bcast_S1024x1x10_S1024x10x10_0_1_2 (secondIn n))

/-- The second vertex of a pair is the one the first is matched to. -/
def matched (y : IVec S1024x10x1 32) : IVec S1024x10x10 1 :=
  cmpi .eq
    (broadcastInDim S1024x10x10 ![0, 1, 2] bcast_S1x1x10_S1024x10x10_0_1_2
      (broadcastInDim S1x1x10 ![1, 2] bcast_S1x10_S1x1x10_1_2 (broadcastInDim S1x10 ![1] bcast_S10_S1x10_1 (iotaInDim S10 32 0))))
    (broadcastInDim S1024x10x10 ![0, 1, 2] bcast_S1024x10x1_S1024x10x10_0_1_2
      (broadcastInDim S1024x10x1 ![0, 1] bcast_S1024x10_S1024x10x1_0_1 (shapeCast S1024x10 y shapeCasts_S1024x10x1_S1024x10)))

/-- The target of a pair: one where it is a match in the graph. -/
def target (y : IVec S1024x10x1 32) (n : IVec S1024 32) : FVec Ideal S1024x1x100 .f32 :=
  uitofp .f32 (shapeCast S1024x1x100 (andi (valid n) (matched y)) shapeCasts_S1024x10x10_S1024x1x100)

/-- The bound on the logarithms, spread. -/
def lows : FVec Ideal S1024x1x100 .f32 := broadcastInDim S1024x1x100 ![] bcast_S_S1024x1x100 (id (constant S_ .f32 0xC2C80000#32))
/-- The number one, spread. -/
def ones : FVec Ideal S1024x1x100 .f32 := broadcastInDim S1024x1x100 ![] bcast_S_S1024x1x100 (constant S_ .f32 0x3F800000#32)

/-- The edge terms, as the reference computes them. -/
def edges (e : FVec Ideal S1024x1x100 .f32) (y : IVec S1024x10x1 32) (n : IVec S1024 32) : FVec Ideal S1024x1x100 .f32 :=
  mulf (uitofp .f32 (shapeCast S1024x1x100 (valid n) shapeCasts_S1024x10x10_S1024x1x100))
    (Host.negf (addf (mulf (target y n) (maximumf lows (Host.log e))) (mulf (subf ones (target y n)) (maximumf lows (Host.log (subf ones e))))))

/-- The squares, as the reference computes them. -/
def squares (p t m : FVec Ideal S1024x6x16x16 .f32) : FVec Ideal S1024x6x16x16 .f32 :=
  mulf (subf (mulf p m) (mulf t m)) (subf (mulf p m) (mulf t m))

/-- The reference's result. -/
def whole (p t m : FVec Ideal S1024x6x16x16 .f32) (e : FVec Ideal S1024x1x100 .f32) (y : IVec S1024x10x1 32) (n : IVec S1024 32) : FVec Ideal S_ .f32 :=
  addf
    (mulf (constant S_ .f32 0x42C80000#32)
      (Host.divf (Host.reduceAdd (squares p t m) (constant S_ .f32 0x00000000#32) reducesTo_S1024x6x16x16_S_d0_1_2_3 h_S_) (constant S_ .f32 0x49C00000#32)))
    (mulf (constant S_ .f32 0x42C80000#32)
      (Host.divf (Host.reduceAdd (edges e y n) (constant S_ .f32 0x00000000#32) reducesTo_S1024x1x100_S_d0_1_2 h_S_) (constant S_ .f32 0x47C80000#32)))

/-- The run's result is this one of the arguments. -/
theorem result_whole (m : (ℓ : Loc nD τ sig) → Buf (Elt Ideal) ℓ) (c : Dev nD) :
    Cert.ReferenceIdeal.Value.res_out0 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

/-! ## The edge terms -/

/-- Whether a pair lies in the graph, read at the pair. -/
theorem valid_at (n : IVec S1024 32) (b : Fin 1024) (i j : Fin 10) :
    valid n (ix3 b i j) = Scalar.andi (Scalar.cmpi .slt (BitVec.ofNat 32 i.val) (n (ix1 b))) (Scalar.cmpi .slt (BitVec.ofNat 32 j.val) (n (ix1 b))) := by
  have h1 : broadcastInDim S1024x10x10 ![0, 1, 2] bcast_S1024x10x1_S1024x10x10_0_1_2 (firstIn n) (ix3 b i j) = firstIn n (ix3 b i 0) :=
    broadcastInDim_apply _ _ _ _ _ (fun a => by match a with | ⟨0, _⟩ => rfl | ⟨1, _⟩ => rfl | ⟨2, _⟩ => rfl)
  have h2 : broadcastInDim S1024x10x10 ![0, 1, 2] bcast_S1024x1x10_S1024x10x10_0_1_2 (secondIn n) (ix3 b i j) = secondIn n (ix3 b 0 j) :=
    broadcastInDim_apply _ _ _ _ _ (fun a => by match a with | ⟨0, _⟩ => rfl | ⟨1, _⟩ => rfl | ⟨2, _⟩ => rfl)
  have n1 : broadcastInDim S1024x10x1 ![0, 1, 2] bcast_S1024x1x1_S1024x10x1_0_1_2 (broadcastInDim S1024x1x1 ![0] bcast_S1024_S1024x1x1_0 n) (ix3 b i 0) = n (ix1 b) :=
    (broadcastInDim_apply _ _ _ _ (ix3 b 0 0) (fun a => by match a with | ⟨0, _⟩ => rfl | ⟨1, _⟩ => rfl | ⟨2, _⟩ => rfl)).trans
      (broadcastInDim_apply _ _ _ _ _ (fun a => by match a with | ⟨0, _⟩ => rfl))
  have n2 : broadcastInDim S1024x1x10 ![0, 1, 2] bcast_S1024x1x1_S1024x1x10_0_1_2 (broadcastInDim S1024x1x1 ![0] bcast_S1024_S1024x1x1_0 n) (ix3 b 0 j) = n (ix1 b) :=
    (broadcastInDim_apply _ _ _ _ (ix3 b 0 0) (fun a => by match a with | ⟨0, _⟩ => rfl | ⟨1, _⟩ => rfl | ⟨2, _⟩ => rfl)).trans
      (broadcastInDim_apply _ _ _ _ _ (fun a => by match a with | ⟨0, _⟩ => rfl))
  refine (congrArg₂ Scalar.andi h1 h2).trans ?_
  exact congrArg₂ Scalar.andi (congrArg (Scalar.cmpi .slt _) n1) (congrArg (Scalar.cmpi .slt _) n2)

/-- Whether a pair is a match, read at the pair. -/
theorem matched_at (y : IVec S1024x10x1 32) (b : Fin 1024) (i j : Fin 10) :
    matched y (ix3 b i j) = Scalar.cmpi .eq (BitVec.ofNat 32 j.val) (y (ix3 b i 0)) := by
  have hy : broadcastInDim S1024x10x10 ![0, 1, 2] bcast_S1024x10x1_S1024x10x10_0_1_2
      (broadcastInDim S1024x10x1 ![0, 1] bcast_S1024x10_S1024x10x1_0_1 (shapeCast S1024x10 y shapeCasts_S1024x10x1_S1024x10)) (ix3 b i j) = y (ix3 b i 0) := by
    refine (broadcastInDim_apply _ bcast_S1024x10x1_S1024x10x10_0_1_2 _ (ix3 b i j) (ix3 b i 0)
        (fun a => by match a with | ⟨0, _⟩ => rfl | ⟨1, _⟩ => rfl | ⟨2, _⟩ => rfl)).trans
      ((broadcastInDim_apply _ bcast_S1024x10_S1024x10x1_0_1 _ (ix3 b i 0) (ix2 b i)
        (fun a => by match a with | ⟨0, _⟩ => rfl | ⟨1, _⟩ => rfl)).trans
      (shapeCast_apply (s := S1024x10x1) (t := S1024x10) y _ (ix2 b i) (ix3 b i 0) ?_))
    rw [Shape.rowMajor_val_two, Shape.rowMajor_val_three]
    show (b.val * 10 + i.val) * 1 + 0 = b.val * 10 + i.val
    omega
  rw [← hy]
  rfl

/-- An array over pairs, read where the reference keeps the pairs on one axis. -/
theorem pairs_at {α : Type} (x : S1024x10x10.Idx → α) (b : Fin 1024) (i j : Fin 10) (q : Fin 100) (hq : q.val = 10 * i.val + j.val) :
    shapeCast S1024x1x100 x shapeCasts_S1024x10x10_S1024x1x100 (ix3 b 0 q) = x (ix3 b i j) := by
  refine shapeCast_apply (s := S1024x10x10) (t := S1024x1x100) x _ (ix3 b 0 q) (ix3 b i j) ?_
  rw [Shape.rowMajor_val_three, Shape.rowMajor_val_three]
  show (b.val * 10 + i.val) * 10 + j.val = (b.val * 1 + 0) * 100 + q.val
  omega

/-- A cross-entropy weighted by two truth values is the one the two choose: `v` whether the pair counts, `q` whether it is a match. -/
theorem entropy_select (v q : BitVec 1) (A B l : EReal) :
    (((v.toNat : ℝ) : EReal)) * (-((((Scalar.andi v q).toNat : ℝ) : EReal) * max l A + (1 - (((Scalar.andi v q).toNat : ℝ) : EReal)) * max l B))
      = Scalar.select v (0 - Scalar.select q (max A l) (max B l)) 0 := by
  have one_sub_one : (1 : EReal) - 1 = 0 := by rw [← EReal.coe_one, ← EReal.coe_sub, sub_self, EReal.coe_zero]
  have d00 : Scalar.andi 0#1 0#1 = 0#1 := rfl
  have d01 : Scalar.andi 0#1 1#1 = 0#1 := rfl
  have d10 : Scalar.andi 1#1 0#1 = 0#1 := rfl
  have d11 : Scalar.andi 1#1 1#1 = 1#1 := rfl
  rcases BitVec.eq_zero_or_eq_one v with rfl | rfl <;> rcases BitVec.eq_zero_or_eq_one q with rfl | rfl <;>
    simp [d00, d01, d10, d11, Scalar.select, one_sub_one, max_comm l]

/-- The reference's edge term of graph `b` and the pair `(i, j)`. -/
theorem edges_at (e : FVec Ideal S1024x1x100 .f32) (y : IVec S1024x10x1 32) (n : IVec S1024 32) (b : Fin 1024) (i j : Fin 10) (q : Fin 100)
    (hq : q.val = 10 * i.val + j.val) :
    edges e y n (ix3 b 0 q) = edgeTerm (n (ix1 b)) (y (ix3 b i 0)) i.val j.val (e (ix3 b 0 q)) := by
  have hv := pairs_at (valid n) b i j q hq
  have ht := pairs_at (andi (valid n) (matched y)) b i j q hq
  have ho : ones (ix3 b 0 q) = 1 := Ideal.ofBits_one_f32
  unfold edgeTerm
  rw [← matched_at y b i j, ← valid_at n b i j, ← entropy_select, ← ho,
    show Scalar.andi (valid n (ix3 b i j)) (matched y (ix3 b i j)) = andi (valid n) (matched y) (ix3 b i j) from rfl, ← ht, ← hv]
  rfl

/-! ## The two weighted sums -/

/-- A sum divided by one real and multiplied by another is the sum weighted by their quotient. -/
theorem scaled (a b r : ℝ) (hb : b ≠ 0) (h : a / b = r) (S : EReal) : (a : EReal) * Ideal.div S (b : EReal) = (r : EReal) * S := by
  have hb' : (b : EReal) ≠ 0 := by simpa using hb
  rw [Ideal.div, if_neg hb', ← EReal.coe_inv, mul_comm S, ← mul_assoc, ← EReal.coe_mul, ← h, div_eq_mul_inv]

/-- The printed weight of either loss is a hundred. -/
theorem hundred : Ideal.ofBits .f32 0x42C80000#32 = ((100 : ℝ) : EReal) := by
  simp [Ideal.ofBits, Ideal.ieee, -EReal.coe_mul]; norm_num
/-- The printed divisor of the first mean is the number of entries. -/
theorem entries : Ideal.ofBits .f32 0x49C00000#32 = ((1572864 : ℝ) : EReal) := by
  simp [Ideal.ofBits, Ideal.ieee, -EReal.coe_mul]; norm_num
/-- The printed divisor of the second mean is the number of pairs. -/
theorem pairs : Ideal.ofBits .f32 0x47C80000#32 = ((102400 : ℝ) : EReal) := by
  simp [Ideal.ofBits, Ideal.ieee, -EReal.coe_mul]; norm_num

/-- The reference's result: the two sums, each with its weight. -/
theorem whole_eq (p t m : FVec Ideal S1024x6x16x16 .f32) (e : FVec Ideal S1024x1x100 .f32) (y : IVec S1024x10x1 32) (n : IVec S1024 32) (j : S_.Idx) :
    whole p t m e y n j = (cp : EReal) * (∑ i, squares p t m i) + (ce : EReal) * ∑ i, edges e y n i := by
  have h1 : Host.reduceAdd (squares p t m) (constant (F := Ideal) S_ .f32 0x00000000#32) reducesTo_S1024x6x16x16_S_d0_1_2_3 h_S_ j = ∑ i, squares p t m i := by
    rw [hostReduceAdd_apply, Ideal.hostReduceAdd_total _ (by decide)]
    show Ideal.ofBits .f32 0x00000000#32 + _ = _
    rw [Ideal.ofBits_zero_f32, zero_add]
  have h2 : Host.reduceAdd (edges e y n) (constant (F := Ideal) S_ .f32 0x00000000#32) reducesTo_S1024x1x100_S_d0_1_2 h_S_ j = ∑ i, edges e y n i := by
    rw [hostReduceAdd_apply, Ideal.hostReduceAdd_total _ (by decide)]
    show Ideal.ofBits .f32 0x00000000#32 + _ = _
    rw [Ideal.ofBits_zero_f32, zero_add]
  show Ideal.ofBits .f32 0x42C80000#32 * Ideal.div (Host.reduceAdd (squares p t m) (constant (F := Ideal) S_ .f32 0x00000000#32) reducesTo_S1024x6x16x16_S_d0_1_2_3 h_S_ j) (Ideal.ofBits .f32 0x49C00000#32)
    + Ideal.ofBits .f32 0x42C80000#32 * Ideal.div (Host.reduceAdd (edges e y n) (constant (F := Ideal) S_ .f32 0x00000000#32) reducesTo_S1024x1x100_S_d0_1_2 h_S_ j) (Ideal.ofBits .f32 0x47C80000#32) = _
  rw [h1, h2, hundred, entries, pairs, scaled 100 1572864 cp (by norm_num) (by unfold cp; norm_num), scaled 100 102400 ce (by norm_num) (by unfold ce; norm_num)]

end Cert.Proof.Value.Ref

end
-- ==== Proof.Value.lean ====
/-
  The two programs compute one value: the kernel's two sums over its rearranged operands are the reference's over the arguments,
  entry by entry, once the mask is finite.
-/
module

public import proofs.«01_k».proof.Defs
public import proofs.«01_k».proof.Proof.RefValue
public import proofs.«01_k».proof.Proof.Launch

@[expose] public section

noncomputable section

open scoped BigOperators

namespace Cert.Proof.Value

open Cert.KernelIdeal Cert.KernelIdeal.Gen Cert.Proof.Rings
open Idealize.ShloMosaic hiding ix1 ix2 ix3
open Idealize.ShloMosaic.ValueIdx
open Idealize.ShloMosaic.TcCoe Idealize.SL.Sem Idealize.ShloMosaic.StableHlo

/-! ## The kernel's rearrangements of its arguments -/

/-- A point operand: coordinates first, graphs last, in rows. -/
def rows (x : FVec Ideal S1024x6x16x16 .f32) : FVec Ideal S1536x1024 .f32 :=
  shapeCast S1536x1024 (transpose S6x16x16x1024 [1, 2, 3, 0] x transposes_S1024x6x16x16_S6x16x16x1024_1_2_3_0) shapeCasts_S6x16x16x1024_S1536x1024

/-- The predicted weights: pairs first, graphs last, on sublanes and lanes. -/
def weights (e : FVec Ideal S1024x1x100 .f32) : FVec Ideal S10x10x8x128 .f32 :=
  shapeCast S10x10x8x128 (transpose S100x1x1024 [2, 1, 0] e transposes_S1024x1x100_S100x1x1024_2_1_0) shapeCasts_S100x1x1024_S10x10x8x128

/-- The matches: vertices first, graphs last, on sublanes and lanes. -/
def matching (y : IVec S1024x10x1 32) : IVec S10x8x128 32 :=
  shapeCast S10x8x128 (transpose S10x1x1024 [1, 2, 0] y transposes_S1024x10x1_S10x1x1024_1_2_0) shapeCasts_S10x1x1024_S10x8x128

/-- The vertex counts on sublanes and lanes. -/
def counts (n : IVec S1024 32) : IVec S8x128 32 := shapeCast S8x128 n shapeCasts_S1024_S8x128

/-! ## The point sum -/

/-- The sum of squares over the rows is the sum over the arguments. -/
theorem point_sum (p t m : FVec Ideal S1024x6x16x16 .f32) :
    ∑ i, sqAt (rows p) (rows t) (rows m) i = ∑ i, sqAt (s := S1024x6x16x16) p t m i :=
  (sum_reshape (s := S6x16x16x1024) shapeCasts_S6x16x16x1024_S1536x1024
    (fun j => sqAt (s := S1024x6x16x16) p t m (transposes_S1024x6x16x16_S6x16x16x1024_1_2_3_0.src j))).trans
    ((bijective_last4 transposes_S1024x6x16x16_S6x16x16x1024_1_2_3_0).sum_comp (sqAt (s := S1024x6x16x16) p t m))

/-- Where the mask is finite, weighting before the subtraction or after is the same. -/
theorem squares_eq (p t m : FVec Ideal S1024x6x16x16 .f32) (hm : ∀ i, ∃ r : ℝ, m i = (r : EReal)) (i : S1024x6x16x16.Idx) :
    sqAt (s := S1024x6x16x16) p t m i = Ref.squares p t m i := by
  obtain ⟨r, hr⟩ := hm i
  show ((p i - t i) * m i) * ((p i - t i) * m i) = (p i * m i - t i * m i) * (p i * m i - t i * m i)
  rw [hr]
  exact sub_weight_sq _ _ _

/-! ## The edge sum -/

/-- The graph at sublane `s`, lane `l`. -/
def graph (s : Fin 8) (l : Fin 128) : Fin 1024 := ⟨128 * s.val + l.val, by have := s.isLt; have := l.isLt; omega⟩
/-- The pair `(i, j)` on the one axis that holds the pairs. -/
def pair (i j : Fin 10) : Fin 100 := ⟨10 * i.val + j.val, by have := i.isLt; have := j.isLt; omega⟩

/-- Where the kernel's index `(i, j, s, l)` of the weights lies in the argument. -/
def home (i : S10x10x8x128.Idx) : S1024x1x100.Idx :=
  transposes_S1024x1x100_S100x1x1024_2_1_0.src (Shape.reshapeEquiv shapeCasts_S100x1x1024_S10x10x8x128 i)

/-- That place: the graph of the sublane and lane, the pair of the two vertices. -/
theorem home_eq (i : S10x10x8x128.Idx) : home i = ix3 (graph (i 2) (i 3)) 0 (pair (i 0) (i 1)) := by
  have h : Shape.reshapeEquiv (s := S100x1x1024) (s' := S10x10x8x128) shapeCasts_S100x1x1024_S10x10x8x128 i = ix3 (pair (i 0) (i 1)) 0 (graph (i 2) (i 3)) := by
    refine Shape.reshapeEquiv_eq_of_rowMajor _ ?_
    rw [Shape.rowMajor_val_three, Shape.rowMajor_val_four]
    show ((10 * (i 0).val + (i 1).val) * 1 + 0) * 1024 + (128 * (i 2).val + (i 3).val) = (((i 0).val * 10 + (i 1).val) * 8 + (i 2).val) * 128 + (i 3).val
    omega
  unfold home
  rw [h]
  funext x
  match x with | ⟨0, _⟩ => rfl | ⟨1, _⟩ => rfl | ⟨2, _⟩ => rfl

/-- A graph's vertex count, read at its sublane and lane. -/
theorem counts_at (n : IVec S1024 32) (s : Fin 8) (l : Fin 128) : counts n (ix2 s l) = n (ix1 (graph s l)) := by
  refine shapeCast_apply (s := S1024) (t := S8x128) n _ _ (ix1 (graph s l)) ?_
  rw [Shape.rowMajor_val_one, Shape.rowMajor_val_two]
  show 128 * s.val + l.val = s.val * 128 + l.val
  omega

/-- A vertex's match, read at its graph's sublane and lane. -/
theorem matching_at (y : IVec S1024x10x1 32) (i : Fin 10) (s : Fin 8) (l : Fin 128) : matching y (ix3 i s l) = y (ix3 (graph s l) i 0) := by
  refine (shapeCast_apply (s := S10x1x1024) (t := S10x8x128) _ _ (ix3 i s l) (ix3 i 0 (graph s l)) ?_).trans
    (transpose_apply (s := S1024x10x1) (t := S10x1x1024) [1, 2, 0] y transposes_S1024x10x1_S10x1x1024_1_2_0 _ _
      (fun b => by match b with | ⟨0, _⟩ => rfl | ⟨1, _⟩ => rfl | ⟨2, _⟩ => rfl))
  rw [Shape.rowMajor_val_three, Shape.rowMajor_val_three]
  show (i.val * 1 + 0) * 1024 + (128 * s.val + l.val) = (i.val * 8 + s.val) * 128 + l.val
  omega

/-- The kernel's edge term is the reference's, at the index's place in the argument. -/
theorem edge_eq (e : FVec Ideal S1024x1x100 .f32) (y : IVec S1024x10x1 32) (n : IVec S1024 32) (i : S10x10x8x128.Idx) :
    edgeAt (weights e) (matching y) (counts n) i = Ref.edges e y n (home i) := by
  have hw : weights e i = e (home i) := rfl
  rw [edgeAt, hw, home_eq]
  exact (congrArg₂ (fun a b => edgeTerm a b (i 0).val (i 1).val (e (ix3 (graph (i 2) (i 3)) 0 (pair (i 0) (i 1)))))
    (counts_at n (i 2) (i 3)) (matching_at y (i 0) (i 2) (i 3))).trans (Ref.edges_at e y n (graph (i 2) (i 3)) (i 0) (i 1) (pair (i 0) (i 1)) rfl).symm

/-- The two edge sums are one. -/
theorem edge_sum (e : FVec Ideal S1024x1x100 .f32) (y : IVec S1024x10x1 32) (n : IVec S1024 32) :
    ∑ i, edgeAt (weights e) (matching y) (counts n) i = ∑ i, Ref.edges e y n i := by
  rw [Finset.sum_congr rfl fun i _ => edge_eq e y n i]
  exact (sum_reshape (s := S100x1x1024) shapeCasts_S100x1x1024_S10x10x8x128
    (fun j => Ref.edges e y n (transposes_S1024x1x100_S100x1x1024_2_1_0.src j))).trans
    ((bijective_swap3 transposes_S1024x1x100_S100x1x1024_2_1_0).sum_comp (Ref.edges e y n))

/-! ## The result -/

section Result
variable (m : (ℓ : Loc nD τ sig) → Buf (Elt Ideal) ℓ) (c : Dev nD)

/-! What the host lines before the region leave: the six arguments rearranged. -/

/-- The first points in rows. -/
theorem V_p : V m c main_v1 = rows (m ((c.tc : Thread nD τ).loc main_arg0)) := by
  show StableHlo.after _ _ _ = _
  simp only [hostOps0, List.flatten_cons, List.flatten_nil, List.append_nil]
  after_results
  rfl
/-- The second points in rows. -/
theorem V_t : V m c main_v3 = rows (m ((c.tc : Thread nD τ).loc main_arg1)) := by
  show StableHlo.after _ _ _ = _
  simp only [hostOps0, List.flatten_cons, List.flatten_nil, List.append_nil]
  after_results
  rfl
/-- The mask in rows. -/
theorem V_m : V m c main_v5 = rows (m ((c.tc : Thread nD τ).loc main_arg2)) := by
  show StableHlo.after _ _ _ = _
  simp only [hostOps0, List.flatten_cons, List.flatten_nil, List.append_nil]
  after_results
  rfl
/-- The predicted weights. -/
theorem V_e : V m c main_v7 = weights (m ((c.tc : Thread nD τ).loc main_arg3)) := by
  show StableHlo.after _ _ _ = _
  simp only [hostOps0, List.flatten_cons, List.flatten_nil, List.append_nil]
  after_results
  rfl
/-- The matches. -/
theorem V_y : V m c main_v9 = matching (m ((c.tc : Thread nD τ).loc main_arg4)) := by
  show StableHlo.after _ _ _ = _
  simp only [hostOps0, List.flatten_cons, List.flatten_nil, List.append_nil]
  after_results
  rfl
/-- The vertex counts. -/
theorem V_n : V m c main_v10 = counts (m ((c.tc : Thread nD τ).loc main_arg5)) := by
  show StableHlo.after _ _ _ = _
  simp only [hostOps0, List.flatten_cons, List.flatten_nil, List.append_nil]
  after_results
  rfl

/-- Each window is its whole array, so what it stages is the array: here the first window. -/
theorem staged_e : iblk m c 0 t0_0 = V m c main_v7 := by
  funext j
  show V m c main_v7 (((cfg0.win 0).blk t0_0).view.emb j) = V m c main_v7 j
  refine congrArg _ (funext fun a => Fin.ext ?_)
  match a with
  | ⟨0, _⟩ => show 0 * 10 + 1 * (j 0).val = (j 0).val; omega
  | ⟨1, _⟩ => show 0 * 10 + 1 * (j 1).val = (j 1).val; omega
  | ⟨2, _⟩ => show 0 * 8 + 1 * (j 2).val = (j 2).val; omega
  | ⟨3, _⟩ => show 0 * 128 + 1 * (j 3).val = (j 3).val; omega

/-- The second window's block is its array. -/
theorem staged_y : iblk m c 1 t0_0 = V m c main_v9 := by
  funext j
  show V m c main_v9 (((cfg0.win 1).blk t0_0).view.emb j) = V m c main_v9 j
  refine congrArg _ (funext fun a => Fin.ext ?_)
  match a with
  | ⟨0, _⟩ => show 0 * 10 + 1 * (j 0).val = (j 0).val; omega
  | ⟨1, _⟩ => show 0 * 8 + 1 * (j 1).val = (j 1).val; omega
  | ⟨2, _⟩ => show 0 * 128 + 1 * (j 2).val = (j 2).val; omega
/-- The third window's block is its array. -/
theorem staged_n : iblk m c 2 t0_0 = V m c main_v10 := by
  funext j
  show V m c main_v10 (((cfg0.win 2).blk t0_0).view.emb j) = V m c main_v10 j
  refine congrArg _ (funext fun a => Fin.ext ?_)
  match a with
  | ⟨0, _⟩ => show 0 * 8 + 1 * (j 0).val = (j 0).val; omega
  | ⟨1, _⟩ => show 0 * 128 + 1 * (j 1).val = (j 1).val; omega

/-- The kernel's result: the reference's, where the mask is finite. -/
theorem kernel_result (hm : ∀ i : S1024x6x16x16.Idx, ∃ r : ℝ, m ((c.tc : Thread nD τ).loc main_arg2) i = (r : EReal)) (j : S_.Idx) :
    outAt (F := Ideal) m c t0_0 = Ref.whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) j := by
  rw [Ref.whole_eq, outAt]
  refine (acc_all c _ _ _ _ _ _ _ _ _ _ (fun o => pay2_ideal o _ _ _)).trans ?_
  rw [View.read_rep, View.read_rep, View.read_rep, staged_e, staged_y, staged_n, V_e, V_y, V_n, V_p, V_t, V_m, edge_sum]
  refine congrArg (fun x : EReal => (cp : EReal) * x + _) ?_
  exact (point_sum _ _ _).trans (Finset.sum_congr rfl fun i _ => squares_eq _ _ _ hm i)

end Result

/-! ## The precondition -/

/-- The precondition's shape relation: a scalar spread over the mask. -/
theorem mask_facts : Cert.Pre_mask_finite.Facts := ⟨by decide⟩

/-- An extended real whose absolute value is below infinity is a real. -/
theorem real_of_abs_lt (x : EReal) (h : FloatOps.cmpf (F := Ideal) (φ := .f32) .olt (FloatOps.hostAbsf (F := Ideal) (φ := .f32) x)
    (FloatOps.ofBits (F := Ideal) .f32 0x7F800000#32) = 1#1) : ∃ r : ℝ, x = (r : EReal) := by
  have ht : FloatOps.ofBits (F := Ideal) .f32 0x7F800000#32 = (⊤ : EReal) := by
    show Ideal.ofBits .f32 _ = _
    simp [Ideal.ofBits, Ideal.ieee]
  rw [ht] at h
  induction x using EReal.rec with
  | bot => exact absurd h (by simp [FloatOps.cmpf, FloatOps.hostAbsf, Ideal.cmp])
  | coe r => exact ⟨r, rfl⟩
  | top => exact absurd h (by simp [FloatOps.cmpf, FloatOps.hostAbsf, Ideal.cmp])

attribute [local instance] mask_facts

/-- Under the precondition every entry of the mask is a real. -/
theorem mask_real (m : (ℓ : Loc nD τ sig) → Buf (Elt Ideal) ℓ) (h : Cert.Pre_KernelIdeal_mask_finite m) (c : Dev nD) (i : S1024x6x16x16.Idx) :
    ∃ r : ℝ, m ((c.tc : Thread nD τ).loc main_arg2) i = (r : EReal) :=
  real_of_abs_lt _ (congrFun (h c) i)

/-! ## The claim -/

/-- `Cert.algebraic_KernelIdeal_ReferenceIdeal_pre_mask_finite`. -/
theorem algebraic : Cert.algebraic_KernelIdeal_ReferenceIdeal_pre_mask_finite := by
  intro m ρ m' ρ' hpre hargs
  refine ⟨fun c _ => outAt (F := Ideal) m c t0_0,
    (θ_run Cert.KernelIdeal.defs _ _).mono (fun _ h => h.1) (run_main (F := Ideal) m ρ),
    (θ_run Cert.ReferenceIdeal.defs _ _).mono (fun r h c => ⟨(h c).1.trans ?_, (h c).2⟩) (Cert.ReferenceIdeal.Value.run (F := Ideal) m' ρ')⟩
  obtain ⟨h0, h1, h2, h3, h4, h5⟩ := hargs c
  refine (Ref.result_whole m' c).trans ?_
  rw [h0, h1, h2, h3, h4, h5]
  funext j
  exact (kernel_result m c (mask_real m hpre c) j).symm

end Cert.Proof.Value

end
-- ==== Proof.lean ====
/-
  The claims, put together from the modules under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value

@[expose] public section

noncomputable section

namespace Cert.Proof

open Idealize.ShloMosaic Idealize.SL.Sem

/-- `Cert.preserves_Kernel_KernelIdeal`: the one named constant is the table's value. -/
theorem preserves : Cert.preserves_Kernel_KernelIdeal := IdealRules.named_const.statement _ _ _ _ _ rfl

/-- Every claim of the certificate. -/
theorem claim : Cert.Claim := ⟨Cert.Kernel.Gen.facts, Cert.KernelIdeal.Gen.facts, Cert.ReferenceIdeal.Gen.facts, Value.mask_facts,
  Rings.frame_kernel, Rings.frame_ideal, fun m g _ => Rings.frame_ideal m g trivial, Rings.frame_reference,
  fun m g _ => Rings.frame_reference m g trivial, preserves, Value.algebraic⟩

end Cert.Proof

end
